-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨2, ![64, 1024]⟩ ⟨2, ![64, 2048]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 4096]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![1024, 2048]⟩ ⟨2, ![2048, 4096]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![1024, 2048]⟩ ⟨2, ![2048, 4096]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![64, 1024]⟩ ⟨2, ![64, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S64x1024 : Shape := ⟨2, ![64, 1024]⟩
abbrev S1024x2048 : Shape := ⟨2, ![1024, 2048]⟩
abbrev S2048x1024 : Shape := ⟨2, ![2048, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S1024x2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  main_v28

def fn {F : FTy → Type} [FloatOps F] (main_arg0 : FVec F S64x1024 .f32) (main_arg1 : FVec F S1024x2048 .f32) (main_arg2 : FVec F S2048x1024 .f32) (main_arg3 : FVec F S1024x2048 .f32) (main_arg4 : FVec F S2048x1024 .f32) (main_arg5 : FVec F S1024x2048 .f32) (main_arg6 : FVec F S2048x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_v13 main_v16
-- ==== Pre_finite_ReferenceIdeal.lean ====
abbrev S64x2048 : Shape := ⟨2, ![64, 2048]⟩
abbrev S2048x4096 : Shape := ⟨2, ![2048, 4096]⟩
abbrev S4096x2048 : Shape := ⟨2, ![4096, 2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_arg5 : FVec F S2048x4096 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  main_v28

def fn {F : FTy → Type} [FloatOps F] (main_arg0 : FVec F S64x2048 .f32) (main_arg1 : FVec F S2048x4096 .f32) (main_arg2 : FVec F S4096x2048 .f32) (main_arg3 : FVec F S2048x4096 .f32) (main_arg4 : FVec F S4096x2048 .f32) (main_arg5 : FVec F S2048x4096 .f32) (main_arg6 : FVec F S4096x2048 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_v13 main_v16
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2x1024x2048 : Shape := ⟨3, ![2, 1024, 2048]⟩
abbrev S2x2048x1024 : Shape := ⟨3, ![2, 2048, 1024]⟩
abbrev S64x2048 : Shape := ⟨2, ![64, 2048]⟩
abbrev S3x4x64x512 : Shape := ⟨4, ![3, 4, 64, 512]⟩
abbrev S3x64x1024 : Shape := ⟨3, ![3, 64, 1024]⟩
abbrev S2x4 : Shape := ⟨2, ![2, 4]⟩
abbrev S2 : Shape := ⟨1, ![2]⟩
abbrev S3x4 : Shape := ⟨2, ![3, 4]⟩
abbrev S3 : Shape := ⟨1, ![3]⟩
abbrev S1x1 : Shape := ⟨2, ![1, 1]⟩
abbrev S_ : Shape := ⟨0, ![]⟩
abbrev S1x1024x512 : Shape := ⟨3, ![1, 1024, 512]⟩
abbrev S1024x512 : Shape := ⟨2, ![1024, 512]⟩
abbrev S1 : Shape := ⟨1, ![1]⟩
abbrev S1x2048x1024 : Shape := ⟨3, ![1, 2048, 1024]⟩
abbrev S64x512 : Shape := ⟨2, ![64, 512]⟩
abbrev S1x1x64x512 : Shape := ⟨4, ![1, 1, 64, 512]⟩
abbrev S1x512x1024 : Shape := ⟨3, ![1, 512, 1024]⟩
abbrev S512x1024 : Shape := ⟨2, ![512, 1024]⟩
abbrev S1x64x1024 : Shape := ⟨3, ![1, 64, 1024]⟩

abbrev nBuf : Space → Nat
  | .hbm => 8
  | .vmem => 10
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S2x1024x2048, .f32⟩
  | .local _ .vmem, ⟨3, _⟩ => ⟨S2x2048x1024, .f32⟩
  | .local _ .vmem, ⟨4, _⟩ => ⟨S64x2048, .f32⟩
  | .local _ .vmem, ⟨5, _⟩ => ⟨S64x2048, .f32⟩
  | .local _ .vmem, ⟨6, _⟩ => ⟨S3x4x64x512, .bf16⟩
  | .local _ .vmem, ⟨7, _⟩ => ⟨S3x4x64x512, .bf16⟩
  | .local _ .vmem, ⟨8, _⟩ => ⟨S3x64x1024, .bf16⟩
  | .local _ .vmem, ⟨9, _⟩ => ⟨S3x64x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_65 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_64 : BitVec 32 := 2#32
  let v57 : BitVec 32 := Scalar.muli v2 c2_i32_64
  let v58 : BitVec 32 := Scalar.addi c0_i32_65 v57
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_66 : BitVec 32 := 1#32
  let v59 : BitVec 32 := Scalar.muli v6 c1_i32_66
  let v60 : BitVec 32 := Scalar.addi v58 v59
  v60.toNat
def k0_dev2 (d0 : Dev nD) : Nat :=
  let c0_i32_69 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_68 : BitVec 32 := 2#32
  let v61 : BitVec 32 := Scalar.muli v7 c2_i32_68
  let v62 : BitVec 32 := Scalar.addi c0_i32_69 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_70 : BitVec 32 := 1#32
  let v63 : BitVec 32 := Scalar.muli v5 c1_i32_70
  let v64 : BitVec 32 := Scalar.addi v62 v63
  v64.toNat
def k0_dev3 (d0 : Dev nD) : Nat :=
  let c0_i32_100 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_99 : BitVec 32 := 2#32
  let v83 : BitVec 32 := Scalar.muli v2 c2_i32_99
  let v84 : BitVec 32 := Scalar.addi c0_i32_100 v83
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_101 : BitVec 32 := 1#32
  let v85 : BitVec 32 := Scalar.muli v6 c1_i32_101
  let v86 : BitVec 32 := Scalar.addi v84 v85
  v86.toNat
def k0_dev4 (d0 : Dev nD) : Nat :=
  let c0_i32_132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_131 : BitVec 32 := 2#32
  let v111 : BitVec 32 := Scalar.muli v2 c2_i32_131
  let v112 : BitVec 32 := Scalar.addi c0_i32_132 v111
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_133 : BitVec 32 := 1#32
  let v113 : BitVec 32 := Scalar.muli v6 c1_i32_133
  let v114 : BitVec 32 := Scalar.addi v112 v113
  v114.toNat
def k0_dev5 (d0 : Dev nD) : Nat :=
  let c0_i32_164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_163 : BitVec 32 := 2#32
  let v139 : BitVec 32 := Scalar.muli v2 c2_i32_163
  let v140 : BitVec 32 := Scalar.addi c0_i32_164 v139
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_165 : BitVec 32 := 1#32
  let v141 : BitVec 32 := Scalar.muli v6 c1_i32_165
  let v142 : BitVec 32 := Scalar.addi v140 v141
  v142.toNat
def k0_dev6 (d0 : Dev nD) : Nat :=
  let c0_i32_196 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_195 : BitVec 32 := 2#32
  let v167 : BitVec 32 := Scalar.muli v2 c2_i32_195
  let v168 : BitVec 32 := Scalar.addi c0_i32_196 v167
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_197 : BitVec 32 := 1#32
  let v169 : BitVec 32 := Scalar.muli v6 c1_i32_197
  let v170 : BitVec 32 := Scalar.addi v168 v169
  v170.toNat
def k0_dev7 (d0 : Dev nD) : Nat :=
  let c0_i32_370 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_369 : BitVec 32 := 2#32
  let v294 : BitVec 32 := Scalar.muli v7 c2_i32_369
  let v295 : BitVec 32 := Scalar.addi c0_i32_370 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_371 : BitVec 32 := 1#32
  let v296 : BitVec 32 := Scalar.muli v5 c1_i32_371
  let v297 : BitVec 32 := Scalar.addi v295 v296
  v297.toNat
def k0_dev8 (d0 : Dev nD) : Nat :=
  let c0_i32_506 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_505 : BitVec 32 := 2#32
  let v406 : BitVec 32 := Scalar.muli v2 c2_i32_505
  let v407 : BitVec 32 := Scalar.addi c0_i32_506 v406
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_507 : BitVec 32 := 1#32
  let v408 : BitVec 32 := Scalar.muli v6 c1_i32_507
  let v409 : BitVec 32 := Scalar.addi v407 v408
  v409.toNat
def k0_dev9 (d0 : Dev nD) : Nat :=
  let c0_i32_538 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_537 : BitVec 32 := 2#32
  let v434 : BitVec 32 := Scalar.muli v2 c2_i32_537
  let v435 : BitVec 32 := Scalar.addi c0_i32_538 v434
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_539 : BitVec 32 := 1#32
  let v436 : BitVec 32 := Scalar.muli v6 c1_i32_539
  let v437 : BitVec 32 := Scalar.addi v435 v436
  v437.toNat
def k0_dev10 (d0 : Dev nD) : Nat :=
  let c0_i32_570 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_569 : BitVec 32 := 2#32
  let v462 : BitVec 32 := Scalar.muli v2 c2_i32_569
  let v463 : BitVec 32 := Scalar.addi c0_i32_570 v462
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_571 : BitVec 32 := 1#32
  let v464 : BitVec 32 := Scalar.muli v6 c1_i32_571
  let v465 : BitVec 32 := Scalar.addi v463 v464
  v465.toNat
def k0_dev11 (d0 : Dev nD) : Nat :=
  let c0_i32_602 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_601 : BitVec 32 := 2#32
  let v490 : BitVec 32 := Scalar.muli v2 c2_i32_601
  let v491 : BitVec 32 := Scalar.addi c0_i32_602 v490
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_603 : BitVec 32 := 1#32
  let v492 : BitVec 32 := Scalar.muli v6 c1_i32_603
  let v493 : BitVec 32 := Scalar.addi v491 v492
  v493.toNat
def k0_dev12 (d0 : Dev nD) : Nat :=
  let c0_i32_776 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_775 : BitVec 32 := 2#32
  let v617 : BitVec 32 := Scalar.muli v7 c2_i32_775
  let v618 : BitVec 32 := Scalar.addi c0_i32_776 v617
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_777 : BitVec 32 := 1#32
  let v619 : BitVec 32 := Scalar.muli v5 c1_i32_777
  let v620 : BitVec 32 := Scalar.addi v618 v619
  v620.toNat
def k0_dev13 (d0 : Dev nD) : Nat :=
  let c0_i32_880 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_879 : BitVec 32 := 2#32
  let v705 : BitVec 32 := Scalar.muli v2 c2_i32_879
  let v706 : BitVec 32 := Scalar.addi c0_i32_880 v705
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_881 : BitVec 32 := 1#32
  let v707 : BitVec 32 := Scalar.muli v6 c1_i32_881
  let v708 : BitVec 32 := Scalar.addi v706 v707
  v708.toNat
def k0_dev14 (d0 : Dev nD) : Nat :=
  let c0_i32_912 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_911 : BitVec 32 := 2#32
  let v733 : BitVec 32 := Scalar.muli v2 c2_i32_911
  let v734 : BitVec 32 := Scalar.addi c0_i32_912 v733
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_913 : BitVec 32 := 1#32
  let v735 : BitVec 32 := Scalar.muli v6 c1_i32_913
  let v736 : BitVec 32 := Scalar.addi v734 v735
  v736.toNat
def k0_dev15 (d0 : Dev nD) : Nat :=
  let c0_i32_944 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_943 : BitVec 32 := 2#32
  let v761 : BitVec 32 := Scalar.muli v2 c2_i32_943
  let v762 : BitVec 32 := Scalar.addi c0_i32_944 v761
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_945 : BitVec 32 := 1#32
  let v763 : BitVec 32 := Scalar.muli v6 c1_i32_945
  let v764 : BitVec 32 := Scalar.addi v762 v763
  v764.toNat
def k0_dev16 (d0 : Dev nD) : Nat :=
  let c0_i32_976 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_975 : BitVec 32 := 2#32
  let v789 : BitVec 32 := Scalar.muli v2 c2_i32_975
  let v790 : BitVec 32 := Scalar.addi c0_i32_976 v789
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_977 : BitVec 32 := 1#32
  let v791 : BitVec 32 := Scalar.muli v6 c1_i32_977
  let v792 : BitVec 32 := Scalar.addi v790 v791
  v792.toNat
def k0_dev17 (d0 : Dev nD) : Nat :=
  let c0_i32_1150 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1149 : BitVec 32 := 2#32
  let v916 : BitVec 32 := Scalar.muli v7 c2_i32_1149
  let v917 : BitVec 32 := Scalar.addi c0_i32_1150 v916
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1151 : BitVec 32 := 1#32
  let v918 : BitVec 32 := Scalar.muli v5 c1_i32_1151
  let v919 : BitVec 32 := Scalar.addi v917 v918
  v919.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x2048 : Shape := ⟨2, ![64, 2048]⟩
abbrev S2048x4096 : Shape := ⟨2, ![2048, 4096]⟩
abbrev S4096x2048 : Shape := ⟨2, ![4096, 2048]⟩
abbrev S64x4096 : Shape := ⟨2, ![64, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S4096x2048, .f32⟩
  | .hbm, ⟨3, _⟩ => ⟨S2048x4096, .f32⟩
  | .hbm, ⟨4, _⟩ => ⟨S4096x2048, .f32⟩
  | .hbm, ⟨5, _⟩ => ⟨S2048x4096, .f32⟩
  | .hbm, ⟨6, _⟩ => ⟨S4096x2048, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x2048, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S64x2048, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Common.lean ====
/-
# The 2×2 tensor-parallel stack of three layers: names, contents and the protocol's tables

Device `d` of the mesh `2 × 2` exchanges partial hidden blocks with its `y` neighbour (`yp d`) and partial outputs with
its `x` neighbour (`xp d`). This module names the kernel's buffers, the pieces it cuts them into, the semaphores of the
exchange, what every piece holds at each point (as a function of the device), and the schedule under which the
exchange's semaphores are waited on. Everything is generic in the float values `F`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Tactic
public import Mathlib.Tactic.DeriveFintype

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's rounds, the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local transfers' counters. -/
abbrev EC : UEmb Counters (MT nD τ sig Unit (Elt F) ℕ UU ℕ) := countersEmb (U := UU)

variable (m : (ℓ : Loc nD τ sig) → Buf (Elt F) ℓ)

/-! ## The mesh -/

/-- The neighbour along `y`. -/
def yp (d : Dev nD) : Dev nD := match d with | 0 => 1 | 1 => 0 | 2 => 3 | 3 => 2
/-- The neighbour along `x`. -/
def xp (d : Dev nD) : Dev nD := match d with | 0 => 2 | 1 => 3 | 2 => 0 | 3 => 1

theorem yp_yp (d : Dev nD) : yp (yp d) = d := by revert d; decide
theorem xp_xp (d : Dev nD) : xp (xp d) = d := by revert d; decide
theorem yp_ne_xp (d : Dev nD) : yp d ≠ xp d := by revert d; decide

/-- The neighbour along `y` (`true`) or along `x` (`false`). -/
def tgt (d : Dev nD) (b : Bool) : Dev nD := if b then yp d else xp d
theorem tgt_tgt (d : Dev nD) (b : Bool) : tgt (tgt d b) b = d := by revert d b; decide

/-! ## The buffers -/

abbrev xM : Memref sig .tc .vmem S64x1024 .f32 := Memref.whole cc0_stg0_0
abbrev yM : Memref sig .tc .vmem S64x1024 .f32 := Memref.whole cc0_stg1_0
abbrev wiM : Memref sig .tc .vmem S2x1024x2048 .f32 := Memref.whole cc0_scratch0
abbrev woM : Memref sig .tc .vmem S2x2048x1024 .f32 := Memref.whole cc0_scratch1
abbrev hM : Memref sig .tc .vmem S64x2048 .f32 := Memref.whole cc0_scratch2
abbrev aM : Memref sig .tc .vmem S64x2048 .f32 := Memref.whole cc0_scratch3
abbrev shM : Memref sig .tc .vmem S3x4x64x512 .bf16 := Memref.whole cc0_scratch4
abbrev lhM : Memref sig .tc .vmem S3x4x64x512 .bf16 := Memref.whole cc0_scratch5
abbrev soM : Memref sig .tc .vmem S3x64x1024 .bf16 := Memref.whole cc0_scratch6
abbrev loM : Memref sig .tc .vmem S3x64x1024 .bf16 := Memref.whole cc0_scratch7

/-- The layers' weights where the launch finds them. -/
abbrev wiA (l : Fin 3) : Memref sig .tc .hbm S1024x2048 .f32 :=
  match l with | 0 => Memref.whole main_arg1 | 1 => Memref.whole main_arg3 | 2 => Memref.whole main_arg5
abbrev woA (l : Fin 3) : Memref sig .tc .hbm S2048x1024 .f32 :=
  match l with | 0 => Memref.whole main_arg2 | 1 => Memref.whole main_arg4 | 2 => Memref.whole main_arg6

/-! ## The pieces -/

/-- Slot `(l, c)` of a hidden exchange buffer. -/
abbrev hR (l : Fin 3) (c : Fin 4) : Rect S3x4x64x512 :=
  Rect.unit (s := S3x4x64x512) ![l.val, c.val, 0, 0] S1x1x64x512.size (by revert l c; decide)
/-- Slot `l` of an output exchange buffer. -/
abbrev oR (l : Fin 3) : Rect S3x64x1024 :=
  Rect.unit (s := S3x64x1024) ![l.val, 0, 0] S1x64x1024.size (by revert l; decide)
/-- Columns `512 c …` of plane `p` of the first weights' buffer. -/
abbrev wiR (p : Fin 2) (c : Fin 4) : Rect S2x1024x2048 :=
  Rect.unit (s := S2x1024x2048) ![p.val, 0, 512 * c.val] S1x1024x512.size (by revert p c; decide)
/-- Columns `512 c …` of a first weight matrix. -/
abbrev wiC (c : Fin 4) : Rect S1024x2048 :=
  Rect.unit (s := S1024x2048) ![0, 512 * c.val] S1024x512.size (by revert c; decide)
/-- Plane `p` of the second weights' buffer, -/
abbrev woP (p : Fin 2) : Rect S2x2048x1024 :=
  Rect.unit (s := S2x2048x1024) ![p.val, 0, 0] S1x2048x1024.size (by revert p; decide)
/-- and rows `512 c …` of it. -/
abbrev woR (p : Fin 2) (c : Fin 4) : Rect S2x2048x1024 :=
  Rect.unit (s := S2x2048x1024) ![p.val, 512 * c.val, 0] S1x512x1024.size (by revert p c; decide)
/-- Columns `512 c …` of a hidden block. -/
abbrev cR (c : Fin 4) : Rect S64x2048 :=
  Rect.unit (s := S64x2048) ![0, 512 * c.val] S64x512.size (by revert c; decide)

/-- Every piece has unit strides. -/
theorem one_stride {s : Shape} {o z : Fin s.rank → ℕ} (h) : ∀ a, (Rect.unit (s := s) o z h).stride a = 1 := fun _ => rfl

abbrev shP (l : Fin 3) (c : Fin 4) : Memref sig .tc .vmem S1x1x64x512 .bf16 := shM.slice (hR l c) (fun _ => rfl)
abbrev lhP (l : Fin 3) (c : Fin 4) : Memref sig .tc .vmem S1x1x64x512 .bf16 := lhM.slice (hR l c) (fun _ => rfl)
abbrev soP (l : Fin 3) : Memref sig .tc .vmem S1x64x1024 .bf16 := soM.slice (oR l) (fun _ => rfl)
abbrev loP (l : Fin 3) : Memref sig .tc .vmem S1x64x1024 .bf16 := loM.slice (oR l) (fun _ => rfl)
abbrev wiP (p : Fin 2) (c : Fin 4) : Memref sig .tc .vmem S1x1024x512 .f32 := wiM.slice (wiR p c) (fun _ => rfl)
abbrev woPl (p : Fin 2) : Memref sig .tc .vmem S1x2048x1024 .f32 := woM.slice (woP p) (fun _ => rfl)
abbrev hP (c : Fin 4) : Memref sig .tc .vmem S64x512 .f32 := hM.slice (cR c) (fun _ => rfl)
abbrev aP (c : Fin 4) : Memref sig .tc .vmem S64x512 .f32 := aM.slice (cR c) (fun _ => rfl)
abbrev wiS (l : Fin 3) (c : Fin 4) : Memref sig .tc .hbm S1024x512 .f32 := (wiA l).slice (wiC c) (fun _ => rfl)

/-- The transfers name their pieces without the leading unit axes. -/
abbrev shQ (l : Fin 3) (c : Fin 4) := (shP l c).squeeze S64x512 squeezes_S1x1x64x512_S64x512
abbrev lhQ (l : Fin 3) (c : Fin 4) := (lhP l c).squeeze S64x512 squeezes_S1x1x64x512_S64x512
abbrev soQ (l : Fin 3) := (soP l).squeeze S64x1024 squeezes_S1x64x1024_S64x1024
abbrev loQ (l : Fin 3) := (loP l).squeeze S64x1024 squeezes_S1x64x1024_S64x1024
abbrev wiQ (p : Fin 2) (c : Fin 4) := (wiP p c).squeeze S1024x512 squeezes_S1x1024x512_S1024x512
abbrev woQ (p : Fin 2) := (woPl p).squeeze S2048x1024 squeezes_S1x2048x1024_S2048x1024

/-! ## The semaphores -/

/-- The local transfers' semaphores. -/
abbrev wiSem (p : Fin 2) (c : Fin 4) : DmaSem sig :=
  ((cc0_scratch8.slice (Rect.unit (s := S2x4) ![p.val, c.val] S1x1.size (by revert p c; decide))).squeeze S_ squeezes_S1x1_S_).sem
abbrev woSem (p : Fin 2) : DmaSem sig :=
  ((cc0_scratch9.slice (Rect.unit (s := S2) ![p.val] S1.size (by revert p; decide))).squeeze S_ squeezes_S1_S_).sem

/-- The semaphores of the exchange: the entry barrier's, and per transfer its send and its receive semaphore. -/
inductive Kind
  | bar
  | sH (l : Fin 3) (c : Fin 4)
  | rH (l : Fin 3) (c : Fin 4)
  | sO (l : Fin 3)
  | rO (l : Fin 3)
  deriving DecidableEq, Fintype

abbrev barS : Sem sig := (SemArray.scalar (sig.barrier 0 rfl) : Sems sig S_).sem
abbrev sHS (l : Fin 3) (c : Fin 4) : DmaSem sig :=
  ((cc0_scratch10.slice (Rect.unit (s := S3x4) ![l.val, c.val] S1x1.size (by revert l c; decide))).squeeze S_ squeezes_S1x1_S_).sem
abbrev rHS (l : Fin 3) (c : Fin 4) : DmaSem sig :=
  ((cc0_scratch11.slice (Rect.unit (s := S3x4) ![l.val, c.val] S1x1.size (by revert l c; decide))).squeeze S_ squeezes_S1x1_S_).sem
abbrev sOS (l : Fin 3) : DmaSem sig :=
  ((cc0_scratch12.slice (Rect.unit (s := S3) ![l.val] S1.size (by revert l; decide))).squeeze S_ squeezes_S1_S_).sem
abbrev rOS (l : Fin 3) : DmaSem sig :=
  ((cc0_scratch13.slice (Rect.unit (s := S3) ![l.val] S1.size (by revert l; decide))).squeeze S_ squeezes_S1_S_).sem

abbrev semOf : Kind → SemLoc sig
  | .bar => .reg barS
  | .sH l c => .dma (sHS l c)
  | .rH l c => .dma (rHS l c)
  | .sO l => .dma (sOS l)
  | .rO l => .dma (rOS l)

/-- Which of the exchange's semaphores a semaphore is. -/
def kindOf : SemLoc sig → Option Kind
  | .reg s => if s = barS then some .bar else none
  | .dma i =>
    if i.val < 12 then none
    else if i.val < 24 then some (.sH ⟨(i.val - 12) / 4 % 3, Nat.mod_lt _ (by decide)⟩ ⟨(i.val - 12) % 4, Nat.mod_lt _ (by decide)⟩)
    else if i.val < 36 then some (.rH ⟨(i.val - 24) / 4 % 3, Nat.mod_lt _ (by decide)⟩ ⟨(i.val - 24) % 4, Nat.mod_lt _ (by decide)⟩)
    else if i.val < 39 then some (.sO ⟨(i.val - 36) % 3, Nat.mod_lt _ (by decide)⟩)
    else some (.rO ⟨(i.val - 39) % 3, Nat.mod_lt _ (by decide)⟩)

theorem kindOf_semOf (k : Kind) : kindOf (semOf k) = some k := by revert k; decide
theorem kindOf_wi (p : Fin 2) (c : Fin 4) : kindOf (.dma (wiSem p c)) = none := by revert p c; decide
theorem kindOf_wo (p : Fin 2) : kindOf (.dma (woSem p)) = none := by revert p; decide

/-- Device `d`'s semaphore `k`. -/
abbrev kcell (d : Dev nD) (k : Kind) : GSem nD τ sig := ((d : Thread nD τ), semOf k)

theorem semOf_injective : Function.Injective semOf := fun k k' h =>
  Option.some.inj ((kindOf_semOf k).symm.trans ((congrArg kindOf h).trans (kindOf_semOf k')))

/-! ## The contents -/

/-- The block of `x` staged on device `d`. -/
def xstg (d : Dev nD) : (cc0_stg0_0 : Ref sig .tc).ty.Contents (Elt F) :=
  (win0_0.blk (0 : Fin 1)).view.read (Elt F) (m ((d : Thread nD τ).loc main_arg0))

/-- A value of a squeezed piece laid out in the piece's own shape. -/
def unsq {s s' : Shape} (h : s.Squeezes s') {e : EltTy} (w : s'.Idx → Elt F e) : s.Idx → Elt F e :=
  fun x => w ((Shape.reshapeEquiv h.numel_eq).symm x)

/-- Columns `512 c …` of layer `l`'s first weights, as the kernel reads them of its buffer. -/
def wiV (l : Fin 3) (d : Dev nD) (c : Fin 4) : Vec F S1x1024x512 .f32 :=
  unsq squeezes_S1x1024x512_S1024x512 ((wiS l c).view.read (Elt F) (m ((wiS l c).view.loc (d : Thread nD τ))))

/-- Layer `l`'s second weights, in plane `p` of their buffer. -/
def woB (l : Fin 3) (p : Fin 2) (d : Dev nD) : (woQ p).view.ty.Contents (Elt F) :=
  (woQ p).view.write (Elt F) (m ((woQ p).view.loc (d : Thread nD τ)))
    ((woA l).view.read (Elt F) (m ((woA l).view.loc (d : Thread nD τ)))) Finset.univ

/-- Rows `512 c …` of them, as the kernel reads them of the buffer. -/
def woV (l : Fin 3) (p : Fin 2) (d : Dev nD) (c : Fin 4) : Vec F S1x512x1024 .f32 :=
  woM.view.readAt (Elt F) (woR p c).toLoadRect (woB m l p d)

/-- The first layer's hidden partial, chunk `c`. -/
def h0 (d : Dev nD) (c : Fin 4) : FVec F S64x512 .f32 := k0_pay3 (k0_pay2 (xstg m d)) (wiV m 0 d c)

/-- A layer's output partial, after the first `n` chunks: a chunk is its own hidden partial added to the neighbour's,
    clipped at zero and multiplied into the second weights. -/
def oa1 (h : Dev nD → Fin 4 → FVec F S64x512 .f32) (l : Fin 3) (p : Fin 2) (d : Dev nD) : FVec F S64x1024 .f32 :=
  k0_pay11 (h d 0) (k0_pay4 (h (yp d) 0)) (woV m l p d 0)
def oa2 (h : Dev nD → Fin 4 → FVec F S64x512 .f32) (l : Fin 3) (p : Fin 2) (d : Dev nD) : FVec F S64x1024 .f32 :=
  k0_pay12 (oa1 m h l p d) (h d 1) (k0_pay4 (h (yp d) 1)) (woV m l p d 1)
def oa3 (h : Dev nD → Fin 4 → FVec F S64x512 .f32) (l : Fin 3) (p : Fin 2) (d : Dev nD) : FVec F S64x1024 .f32 :=
  k0_pay12 (oa2 m h l p d) (h d 2) (k0_pay4 (h (yp d) 2)) (woV m l p d 2)
def oaF (h : Dev nD → Fin 4 → FVec F S64x512 .f32) (l : Fin 3) (p : Fin 2) (d : Dev nD) : FVec F S64x1024 .f32 :=
  k0_pay12 (oa3 m h l p d) (h d 3) (k0_pay4 (h (yp d) 3)) (woV m l p d 3)
/-- The partial as it is sent. -/
def soF (h : Dev nD → Fin 4 → FVec F S64x512 .f32) (l : Fin 3) (p : Fin 2) (d : Dev nD) : FVec F S1x64x1024 .bf16 :=
  k0_pay15 (oa3 m h l p d) (h d 3) (k0_pay4 (h (yp d) 3)) (woV m l p d 3)

/-- The next layer's hidden partial: the own output partial's product first, the neighbour's added when it has come. -/
def nxtH (h : Dev nD → Fin 4 → FVec F S64x512 .f32) (l l' : Fin 3) (p : Fin 2) (d : Dev nD) (c : Fin 4) : FVec F S64x512 .f32 :=
  k0_pay44 (k0_pay16 (oaF m h l p d) (wiV m l' d c)) (soF m h l p (xp d)) (wiV m l' d c)

def h1 : Dev nD → Fin 4 → FVec F S64x512 .f32 := nxtH m (h0 m) 0 1 0
def h2 : Dev nD → Fin 4 → FVec F S64x512 .f32 := nxtH m (h1 m) 1 2 1
/-- Layer `l`'s hidden partial, chunk `c`. -/
abbrev hV (l : Fin 3) : Dev nD → Fin 4 → FVec F S64x512 .f32 := match l with | 0 => h0 m | 1 => h1 m | 2 => h2 m
/-- The plane of the weights' buffers layer `l` uses. -/
abbrev pl (l : Fin 3) : Fin 2 := match l with | 0 => 0 | 1 => 1 | 2 => 0

/-- What device `d` sends of the hidden partials, -/
abbrev stV (l : Fin 3) (d : Dev nD) (c : Fin 4) : FVec F S1x1x64x512 .bf16 := k0_pay4 (hV m l d c)
/-- and of the output partials. -/
abbrev soV (l : Fin 3) (d : Dev nD) : FVec F S1x64x1024 .bf16 := soF m (hV m l) l (pl l) d
/-- What device `d` leaves as its result. -/
def resV (d : Dev nD) : FVec F S64x1024 .f32 := k0_pay1 (oaF m (h2 m) 2 0 d) (soF m (h2 m) 2 0 (xp d))

/-! ## The schedule -/

/-- What a hidden transfer and an output transfer credit. -/
abbrev NH : ℕ := (lhQ 0 0).view.dmaCredit
abbrev NO : ℕ := (loQ 0).view.dmaCredit
theorem NH_pos : 0 < NH := View.dmaCredit_pos _ (by decide)
theorem NO_pos : 0 < NO := View.dmaCredit_pos _ (by decide)

/-- What semaphore `k`'s one round comes to. -/
def amt : Kind → ℕ | .bar => 1 | .sH _ _ => NH | .rH _ _ => NH | .sO _ => NO | .rO _ => NO
theorem amt_pos (k : Kind) : 0 < amt k := by
  cases k
  · exact Nat.one_pos
  · exact NH_pos
  · exact NH_pos
  · exact NO_pos
  · exact NO_pos

/-- The landing slots a device hands its neighbours on the barrier: the hidden ones to `y`'s, the output ones to `x`'s. -/
def landH (d : Dev nD) : sProp 𝕄 :=
  bigSep (Finset.univ : Finset (Fin 3 × Fin 4)) fun p => iprop(∃ w, owns (d : Thread nD τ) (lhP p.1 p.2) fullShare w)
def landO (d : Dev nD) : sProp 𝕄 :=
  bigSep (Finset.univ : Finset (Fin 3)) fun l => iprop(∃ w, owns (d : Thread nD τ) (loP l) fullShare w)

/-- What a wait on device `d`'s semaphore `k` hands over: the barrier the neighbours' landing slots; a send semaphore
    the slot sent from; a receive semaphore the landing slot holding what the neighbour sent. -/
def pay (d : Dev nD) (b : Bool) : Kind → sProp 𝕄
  | .bar => if b then landH (yp d) else landO (xp d)
  | .sH l c => owns (d : Thread nD τ) (shP l c) fullShare (stV m l d c)
  | .rH l c => owns (d : Thread nD τ) (lhP l c) fullShare (stV m l (yp d) c)
  | .sO l => owns (d : Thread nD τ) (soP l) fullShare (soV m l d)
  | .rO l => owns (d : Thread nD τ) (loP l) fullShare (soV m l (xp d))

instance landH_storable (d : Dev nD) : BI.Storable (upEmb : UEmb _ 𝕄) (landH (F := F) d) := by unfold landH; infer_instance
instance landO_storable (d : Dev nD) : BI.Storable (upEmb : UEmb _ 𝕄) (landO (F := F) d) := by unfold landO; infer_instance
instance pay_storable (d : Dev nD) (b : Bool) (k : Kind) : BI.Storable (upEmb : UEmb _ 𝕄) (pay (F := F) m d b k) :=
  match k, b with
  | .bar, true => landH_storable (yp d)
  | .bar, false => landO_storable (xp d)
  | .sH _ _, _ => owns_storable _ _ _ _
  | .rH _ _, _ => owns_storable _ _ _ _
  | .sO _, _ => owns_storable _ _ _ _
  | .rO _, _ => owns_storable _ _ _ _

/-- The duties of semaphore `k`: the barrier has one per neighbour, every other semaphore one. -/
def dut : Kind → Finset Bool | .bar => Finset.univ | _ => {false}

/-- One round: round 0. -/
def Rd : Rounds.Schedule (GSem nD τ sig) Bool 𝕄 where
  duties g r := if r = 0 ∧ g.1.2 = .tc then (match kindOf g.2 with | some k => dut k | none => ∅) else ∅
  unitless _ := False
  amount g _ _ := match kindOf g.2 with | some k => amt k | none => 1
  payload g _ b := match kindOf g.2 with | some k => pay m g.1.1 b k | none => iprop(emp)
  amount_pos g _ _ _ := by
    cases kindOf g.2 with
    | none => exact Nat.one_pos
    | some k => exact amt_pos k

instance Rd_storable (g : GSem nD τ sig) (r : ℕ) (b : Bool) : BI.Storable (upEmb : UEmb _ 𝕄) ((Rd (F := F) m).payload g r b) := by
  show BI.Storable upEmb (match kindOf g.2 with | some k => pay m g.1.1 b k | none => iprop(emp))
  cases kindOf g.2 <;> infer_instance

theorem Rd_duties (d : Dev nD) (k : Kind) : (Rd (F := F) m).duties (kcell d k) 0 = dut k := by
  dsimp only [Rd]; rw [if_pos ⟨rfl, rfl⟩, kindOf_semOf]
theorem Rd_later (g : GSem nD τ sig) : ∀ r, 1 ≤ r → (Rd (F := F) m).duties g r = ∅ :=
  fun r hr => by dsimp only [Rd]; rw [if_neg fun h => by omega]
theorem Rd_amount (d : Dev nD) (k : Kind) (b : Bool) : (Rd (F := F) m).amount (kcell d k) 0 b = amt k := by
  dsimp only [Rd]; rw [kindOf_semOf]
theorem Rd_payload (d : Dev nD) (k : Kind) (b : Bool) : (Rd (F := F) m).payload (kcell d k) 0 b = pay m d b k := by
  dsimp only [Rd]; rw [kindOf_semOf]
theorem Rd_expect (d : Dev nD) (k : Kind) : (Rd (F := F) m).expect (kcell d k) 0 = (dut k).card * amt k := by
  unfold Schedule.expect Schedule.amountOf
  rw [Rd_duties, Finset.sum_congr rfl fun b _ => Rd_amount m d k b, Finset.sum_const, smul_eq_mul]

/-! ## What is owed, and in what order -/

/-- What a device has to pay to its neighbours' semaphores, in order: the two barrier signals, then the transfers of each
    layer. The flag says which neighbour's. -/
abbrev Plan : Type := List (Kind × Bool)
abbrev planL (l : Fin 3) : Plan := [(.rH l 0, true), (.rH l 1, true), (.rH l 2, true), (.rH l 3, true), (.rO l, false)]
abbrev plan : Plan := (.bar, true) :: (.bar, false) :: (planL 0 ++ (planL 1 ++ planL 2))

def Ow (d : Dev nD) : Plan → CellTallies nD τ sig Unit
  | [] => 0
  | kb :: ks => Ow d ks + tallyAt (kcell (tgt d kb.2) kb.1) () (amt kb.1)

/-- The order of the waits. -/
def lvK : Kind → ℕ
  | .bar => 1
  | .sH _ _ => 0
  | .rH l c => 2 + 5 * l.val + c.val
  | .sO _ => 0
  | .rO l => 6 + 5 * l.val
def lvS (s : SemLoc sig) : ℕ := match kindOf s with | some k => lvK k | none => 0
theorem lvS_semOf (k : Kind) : lvS (semOf k) = lvK k := by unfold lvS; rw [kindOf_semOf]

abbrev L (g : GSem nD τ sig) : Finset Unit := if g.1.2 = .tc then {()} else ∅
abbrev lv (g : GSem nD τ sig) (_ : Unit) : ℕ := lvS g.2

/-- Every payment of `ks` is to a semaphore waited on later than level `n`. -/
def Later (n : ℕ) (ks : Plan) : Prop := ∀ kb ∈ ks, n < lvK kb.1
instance (n : ℕ) (ks : Plan) : Decidable (Later n ks) := by unfold Later; infer_instance

end Cert.Stack

end

end
-- ==== Proof.Steps.lean ====
/-
# One lemma per kind of step of the kernel

What a load, a store, a transfer into the weights' buffers, a send to a neighbour, and the waits do to the pieces a device
holds. A piece is held as `owns`: the value read through it is known, the rest of its buffer is not mentioned.
-/
module

public import proofs.«01_k».proof.Proof.Common

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `d`'s core runs `p` to `Q`. -/
abbrev wpD (d : Dev nD) {α : Type} (p : Prog (TpuEff nD τ sig (Elt F) Λ₀ .tc) α) (Q : α → sProp 𝕄) : sProp 𝕄 :=
  wp frame (wpE (defs₀ (F := F)) 𝒱₀ (d : Thread nD τ) none) Set.univ p Q

variable {α : Type}

/-! ## Loads and stores of a piece -/

theorem ld (d : Dev nD) {Q : α → sProp 𝕄} {cs : CoreSpace} {s : Shape} {e : EltTy} {M : Memref sig .tc cs s e} {r : Rect s} {hs : ∀ a, r.stride a = 1}
    {hl : M.view.LoadsAt r.toLoadRect} {q : PosShare TreeShare} {v : r.shape.Idx → Elt F e}
    {k : (r.shape.Idx → Elt F e) → Prog (TpuEff nD τ sig (Elt F) Λ₀ .tc) α} :
    (owns (d : Thread nD τ) (M.slice r hs) q v : sProp 𝕄)
      ⊢ iprop((owns (d : Thread nD τ) (M.slice r hs) q v -∗ wpD d (k v) Q) -∗ wpD d (.op (.load M r.toLoadRect hl) k) Q) := by
  unfold owns
  iintro ⟨%f, %hf, H⟩ Hk
  iapply (wp_load 𝒱₀ (d : Thread nD τ) none Set.univ (m := M) (r := r.toLoadRect) (hl := hl) (S := (M.slice r hs).view.set) (q := q) (f := f)
    (by
      show M.view.setOn r.set ⊆ (M.view.slice r).set
      rw [View.set_slice]; exact Finset.Subset.refl _)) $$ H
  iintro H
  have hv : M.view.readAt (Elt F) r.toLoadRect f = v := hf
  rw [hv]
  iapply Hk
  iexists f
  isplitr; · ipureintro; exact hf
  iexact H

theorem st (d : Dev nD) {Q : α → sProp 𝕄} {cs : CoreSpace} {s : Shape} {e : EltTy} {M : Memref sig .tc cs s e} {r : Rect s} {hs : ∀ a, r.stride a = 1}
    {w v : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    (owns (d : Thread nD τ) (M.slice r hs) fullShare v : sProp 𝕄)
      ⊢ iprop((owns (d : Thread nD τ) (M.slice r hs) fullShare w -∗ wpD d (k ⟨⟩) Q)
          -∗ wpD d (.op (.store M r w Finset.univ hx hm) k) Q) := by
  unfold owns
  iintro ⟨%f, %hf, H⟩ Hk
  iapply (wp_store 𝒱₀ (d : Thread nD τ) none Set.univ (m := M) (r := r) (w := w) (Mk := Finset.univ) (hx := hx) (hm := hm)
    (S := (M.slice r hs).view.set) (f := f) (Finset.Subset.refl _)) $$ H
  iintro H
  iapply Hk
  iexists ((M.access r).write (Elt F) f w Finset.univ)
  isplitr
  · ipureintro; exact View.read_write_univ (v := M.access r) f w
  iexact H

/-- A load of part of a piece. -/
theorem ldIn (d : Dev nD) {Q : α → sProp 𝕄} {cs : CoreSpace} {s : Shape} {e : EltTy} {M : Memref sig .tc cs s e} {r : Rect s}
    {hl : M.view.LoadsAt r.toLoadRect} {q : PosShare TreeShare} {S : Finset (Idx (M.view.loc (d : Thread nD τ)))}
    {f : Buf (Elt F) (M.view.loc (d : Thread nD τ))} (hS : M.view.setOn r.set ⊆ S)
    {k : (r.shape.Idx → Elt F e) → Prog (TpuEff nD τ sig (Elt F) Λ₀ .tc) α} :
    (M.view.loc (d : Thread nD τ) ↦[S]{q} f : sProp 𝕄)
      ⊢ iprop(((M.view.loc (d : Thread nD τ) ↦[S]{q} f) -∗ wpD d (k (M.view.readAt (Elt F) r.toLoadRect f)) Q)
          -∗ wpD d (.op (.load M r.toLoadRect hl) k) Q) :=
  wp_load 𝒱₀ (d : Thread nD τ) none Set.univ hS

/-! ## The weights -/

/-- The weights of a layer where the launch finds them: device `d`'s columns `512 c …` of the first, -/
def wiPts (l : Fin 3) (c : Fin 4) (d : Dev nD) : sProp 𝕄 :=
  (wiS l c).view.loc (d : Thread nD τ) ↦[(wiS l c).view.set]{fullShare} (m ((wiS l c).view.loc (d : Thread nD τ)))
/-- and the second. -/
def woPts (l : Fin 3) (d : Dev nD) : sProp 𝕄 :=
  (woA l).view.loc (d : Thread nD τ) ↦[(woA l).view.set]{fullShare} (m ((woA l).view.loc (d : Thread nD τ)))
/-- Plane `p` of the second weights' buffer holding layer `l`'s. -/
def woIn (l : Fin 3) (p : Fin 2) (d : Dev nD) : sProp 𝕄 :=
  woM.view.loc (d : Thread nD τ) ↦[(woPl p).view.set]{fullShare} (woB m l p d)
/-- The transfers of the weights, running. -/
def wiFl (l : Fin 3) (p : Fin 2) (c : Fin 4) (d : Dev nD) : sProp 𝕄 :=
  Transfers.Flight EC (d : Thread nD τ) (.dma (wiSem p c)) () ((wiQ p c).view.dmaCredit)
    iprop(owns (d : Thread nD τ) (wiP p c) fullShare (wiV m l d c) ∗ wiPts m l c d)
def woFl (l : Fin 3) (p : Fin 2) (d : Dev nD) : sProp 𝕄 :=
  Transfers.Flight EC (d : Thread nD τ) (.dma (woSem p)) () ((woQ p).view.dmaCredit)
    iprop(woIn m l p d ∗ woPts m l d)

/-- Starting the transfer of columns `512 c …` of layer `l`'s first weights into plane `p`. -/
theorem wiGo (d : Dev nD) {Q : α → sProp 𝕄} (l : Fin 3) (p : Fin 2) (c : Fin 4) {w : S1x1024x512.Idx → Elt F .f32}
    {hsrc : (wiS l c).view.WordExact} {hdst : (wiQ p c).view.WordExact}
    {hsem : DmaTarget.Typed (nD := nD) (τ := τ) (p := .tc) .hbm (.dma (wiSem p c)) (.here (wiQ p c))}
    {k : PUnit → Prog (TpuEff nD τ sig (Elt F) Λ₀ .tc) α} :
    iprop(wiPts m l c d ∗ owns (d : Thread nD τ) (wiP p c) fullShare w ∗ semVal ((d : Thread nD τ), SemLoc.dma (wiSem p c)) 0)
      ⊢ iprop((wiFl m l p c d -∗ wpD d (k ⟨⟩) Q)
          -∗ wpD d (.op (.enqueueDma (wiS l c) (.here (wiQ p c)) (.dma (wiSem p c)) hsrc hdst hsem) k) Q) := by
  unfold wiPts
  conv => lhs; unfold owns
  iintro ⟨Hs, ⟨%f, %hf, Hd⟩, Hv⟩ Hk
  iapply (Transfers.wp_dmaLocal EC 𝒱₀ (d : Thread nD τ) none (src := wiS l c) (dst := wiQ p c) (via := .same) (sm := .dma (wiSem p c))
    (hsrc := hsrc) (hdst := hdst) (hsem := hsem) (q := fullShare)
    (fs := m ((wiS l c).view.loc (d : Thread nD τ))) (Sd := (wiP p c).view.set) (fd := f)
    () ((wiQ p c).view.dmaCredit) rfl (View.dmaCredit_pos _ (by decide)) (by rw [View.set_reshape])) $$ [Hs Hd Hv]
  · isplitl [Hs]; · iexact Hs
    isplitl [Hd]; · iexact Hd
    iexact Hv
  iintro Hf
  iapply Hk
  unfold wiFl wiPts
  iapply (Transfers.Flight_mono EC (c := (d : Thread nD τ)) (D' := iprop(owns (d : Thread nD τ) (wiP p c) fullShare (wiV m l d c)
    ∗ ((wiS l c).view.loc (d : Thread nD τ) ↦[(wiS l c).view.set]{fullShare} (m ((wiS l c).view.loc (d : Thread nD τ)))))) ?_) $$ Hf
  refine sep_mono_left ?_
  unfold owns
  iintro Hd
  iexists ((wiQ p c).view.write (Elt F) f ((wiS l c).view.read (Elt F) (m ((wiS l c).view.loc (d : Thread nD τ)))) Finset.univ)
  isplitr
  · ipureintro
    exact (congrArg ((wiP p c).view.read (Elt F)) (View.write_reshape_univ (v := (wiP p c).view) (s' := S1024x512)
      squeezes_S1x1024x512_S1024x512.numel_eq f _)).trans (View.read_write_univ (v := (wiP p c).view) f _)
  iexact Hd

/-- Starting the transfer of layer `l`'s second weights into plane `p`. -/
theorem woGo (d : Dev nD) {Q : α → sProp 𝕄} (l : Fin 3) (p : Fin 2) {w : S1x2048x1024.Idx → Elt F .f32}
    {hsrc : (woA l).view.WordExact} {hdst : (woQ p).view.WordExact}
    {hsem : DmaTarget.Typed (nD := nD) (τ := τ) (p := .tc) .hbm (.dma (woSem p)) (.here (woQ p))}
    {k : PUnit → Prog (TpuEff nD τ sig (Elt F) Λ₀ .tc) α} :
    iprop(woPts m l d ∗ owns (d : Thread nD τ) (woPl p) fullShare w ∗ semVal ((d : Thread nD τ), SemLoc.dma (woSem p)) 0)
      ⊢ iprop((woFl m l p d -∗ wpD d (k ⟨⟩) Q)
          -∗ wpD d (.op (.enqueueDma (woA l) (.here (woQ p)) (.dma (woSem p)) hsrc hdst hsem) k) Q) := by
  unfold woPts
  conv => lhs; unfold owns
  iintro ⟨Hs, ⟨%f, %hf, Hd⟩, Hv⟩ Hk
  iapply (Transfers.wp_dmaLocal EC 𝒱₀ (d : Thread nD τ) none (src := woA l) (dst := woQ p) (via := .same) (sm := .dma (woSem p))
    (hsrc := hsrc) (hdst := hdst) (hsem := hsem) (q := fullShare)
    (fs := m ((woA l).view.loc (d : Thread nD τ))) (Sd := (woPl p).view.set) (fd := f)
    () ((woQ p).view.dmaCredit) rfl (View.dmaCredit_pos _ (by decide)) (by rw [View.set_reshape])) $$ [Hs Hd Hv]
  · isplitl [Hs]; · iexact Hs
    isplitl [Hd]; · iexact Hd
    iexact Hv
  iintro Hf
  iapply Hk
  unfold woFl woPts woIn
  iapply (Transfers.Flight_mono EC (c := (d : Thread nD τ)) (D' := iprop((woM.view.loc (d : Thread nD τ) ↦[(woPl p).view.set]{fullShare} (woB m l p d))
    ∗ ((woA l).view.loc (d : Thread nD τ) ↦[(woA l).view.set]{fullShare} (m ((woA l).view.loc (d : Thread nD τ)))))) ?_) $$ Hf
  refine sep_mono_left (Entails.of_eq (pointsTo_congr fun i hi => ?_))
  unfold woB
  exact View.write_congr (fun x _ _ => rfl) fun h => absurd (by rw [View.setOn_univ, View.set_reshape]; exact hi) h

/-! ## The exchange -/

/-- Every semaphore's invariant, and that each has reached its round. -/
def recs (K : Dev nD × Kind → ℕ) : sProp 𝕄 :=
  bigSep (Finset.univ : Finset (Dev nD × Kind)) fun dk =>
    iprop(cellInv ER (Rd m) (K dk) (kcell dk.1 dk.2) ∗ reached ER (kcell dk.1 dk.2) 0)

instance recs_persistent (K : Dev nD × Kind → ℕ) : BI.Persistent (recs (F := F) m K) := by unfold recs; infer_instance

theorem recs_at (K : Dev nD × Kind → ℕ) (d : Dev nD) (k : Kind) :
    (recs (F := F) m K) ⊢ iprop(cellInv ER (Rd m) (K (d, k)) (kcell d k) ∗ reached ER (kcell d k) 0) := by
  unfold recs
  exact (bigSep_elim (i := (d, k)) (Finset.mem_univ _)).trans (Entails.refl _)

/-- What is known throughout: the invariants and the order of the waits. -/
def Env (K : Dev nD × Kind → ℕ) : sProp 𝕄 := iprop(recs m K ∗ levAts L lv)
instance Env_persistent (K : Dev nD × Kind → ℕ) : BI.Persistent (Env (F := F) m K) := by unfold Env; infer_instance

/-- Device `d` has made the first `n` of its payments. -/
def OW (d : Dev nD) (n : ℕ) : sProp 𝕄 := iprop(∃ W, owes (d : Thread nD τ) (Ow d (plan.drop n)) W)

/-- A transfer to neighbour `b` over `s` and `r`: before it starts, -/
def TA (d : Dev nD) (b : Bool) (s r : Kind) : sProp 𝕄 :=
  iprop(dutyTok ER (kcell d s) 0 false ∗ dutyTok ER (kcell (tgt d b) r) 0 false
    ∗ atPos ER (kcell d s) 0 ∅ 0 ∗ atPos ER (kcell d r) 0 ∅ 0 ∗ cred (tallyAt (kcell d r) () (amt r)))
/-- running, -/
def TB (d : Dev nD) (s r : Kind) : sProp 𝕄 :=
  iprop(cred (tallyAt (kcell d s) () (amt s)) ∗ atPos ER (kcell d s) 0 ∅ 0 ∗ atPos ER (kcell d r) 0 ∅ 0 ∗ cred (tallyAt (kcell d r) () (amt r)))
/-- sent, -/
def TC (d : Dev nD) (s r : Kind) : sProp 𝕄 :=
  iprop(semVal (kcell d s) 0 ∗ atPos ER (kcell d r) 0 ∅ 0 ∗ cred (tallyAt (kcell d r) () (amt r)))
/-- and the neighbour's received. -/
def TD (d : Dev nD) (s r : Kind) : sProp 𝕄 := iprop(semVal (kcell d s) 0 ∗ semVal (kcell d r) 0)

theorem Ow_pos (d : Dev nD) (ks : Plan) {g : GSem nD τ sig} {u : Unit} (h : 0 < Ow d ks g u) : ∃ kb ∈ ks, g = kcell (tgt d kb.2) kb.1 := by
  induction ks with
  | nil => exact absurd h (Nat.lt_irrefl 0)
  | cons kb ks ih =>
    simp only [Ow] at h
    rw [Pi.add_apply, Finsupp.add_apply, tallyAt_apply] at h
    by_cases hg : g = kcell (tgt d kb.2) kb.1 ∧ u = ()
    · exact ⟨kb, List.mem_cons_self, hg.1⟩
    · rw [if_neg hg] at h
      obtain ⟨kb', hm, he⟩ := ih h
      exact ⟨kb', List.mem_cons_of_mem _ hm, he⟩

/-- A wait is allowed when everything still owed is waited on later. -/
theorem mayWait_of (d : Dev nD) (s : SemLoc sig) (ks : Plan) (h : ∀ kb ∈ ks, lvS s < lvK kb.1) :
    (levAts L lv : sProp 𝕄) ⊢ MayWait (d : Thread nD τ) s () (Ow d ks) := by
  refine MayOwe.of_cut (L := L) (lev := lv) (lvS s) (fun p hp => ?_) (fun g u hg => ?_) (fun p hp => ?_) (fun g u hg => ?_)
  · rw [Finset.mem_singleton.mp hp, show L ((d : Thread nD τ), s) = {()} from if_pos rfl]; exact Finset.mem_singleton_self _
  · obtain ⟨kb, _, rfl⟩ := Ow_pos d ks hg
    rw [show L (kcell (tgt d kb.2) kb.1) = {()} from if_pos rfl]; exact Finset.mem_singleton_self _
  · rw [Finset.mem_singleton.mp hp]
  · obtain ⟨kb, hm, rfl⟩ := Ow_pos d ks hg
    show lvS s < lvS (semOf kb.1)
    rw [lvS_semOf]; exact h kb hm

theorem plan_lv : ∀ n < 18, 2 ≤ n → ∀ kb ∈ plan.drop n, n ≤ lvK kb.1 := by decide

theorem mayWait_n (d : Dev nD) (s : SemLoc sig) (n : ℕ) (h2 : 2 ≤ n) (hn : lvS s < n) :
    (levAts L lv : sProp 𝕄) ⊢ MayWait (d : Thread nD τ) s () (Ow d (plan.drop n)) := by
  refine mayWait_of d s _ fun kb hm => ?_
  by_cases h : n < 18
  · exact lt_of_lt_of_le hn (plan_lv n h h2 kb hm)
  · rw [List.drop_eq_nil_of_le (by simp [plan, planL]; omega)] at hm
    exact absurd hm List.not_mem_nil

theorem lvS_none {s : SemLoc sig} (h : kindOf s = none) : lvS s = 0 := by unfold lvS; rw [h]

/-- Waiting for a transfer of weights. -/
theorem waitIn (K : Dev nD × Kind → ℕ) (d : Dev nD) {Q : α → sProp 𝕄} (n : ℕ) {sem : DmaSem sig} {D : sProp 𝕄}
    {sp sp' : Space} {s s' : Shape} {e e' : EltTy} {srcw : Memref sig .tc sp' s' e'} {dstw : Memref sig .tc sp s e}
    {hsrc : srcw.view.WordExact} {hdst : dstw.view.WordExact} (hk : kindOf (.dma sem) = none) (h2 : 2 ≤ n)
    {k : PUnit → Prog (TpuEff nD τ sig (Elt F) Λ₀ .tc) α} :
    iprop(Env m K ∗ Transfers.Flight EC (d : Thread nD τ) (.dma sem) () dstw.view.dmaCredit D ∗ OW d n)
      ⊢ iprop((iprop(D ∗ semVal ((d : Thread nD τ), SemLoc.dma sem) 0 ∗ OW d n) -∗ wpD d (k ⟨⟩) Q)
          -∗ wpD d (.op (.waitDma2 sem srcw dstw hsrc hdst) k) Q) := by
  unfold Env OW
  iintro ⟨⟨-, #Hlev⟩, Hf, ⟨%W, HO⟩⟩ Hk
  iapply (Transfers.wp_waitLocalO EC 𝒱₀ (d : Thread nD τ) none () (srcw := srcw) (dstw := dstw) (hsrc := hsrc) (hdst := hdst) rfl
    (O := Ow d (plan.drop n)) (W := W)) $$ [Hf HO]
  · isplitl [Hf]; · iexact Hf
    isplitl [HO]; · iexact HO
    iapply (mayWait_n d (.dma sem) n h2 (by rw [lvS_none hk]; omega)); iexact Hlev
  iintro ⟨HD, Hv, HO⟩
  iapply Hk
  isplitl [HD]; · iexact HD
  isplitl [Hv]; · iexact Hv
  iexists _
  iexact HO

/-- Waiting for the columns `512 c …` of layer `l`'s first weights, -/
theorem waitWi (K : Dev nD × Kind → ℕ) (d : Dev nD) (l : Fin 3) (p : Fin 2) (c : Fin 4) {Q : α → sProp 𝕄} (n : ℕ) (h2 : 2 ≤ n)
    {hsrc : (wiS l c).view.WordExact} {hdst : (wiQ p c).view.WordExact}
    {k : PUnit → Prog (TpuEff nD τ sig (Elt F) Λ₀ .tc) α} :
    iprop(Env m K ∗ wiFl m l p c d ∗ OW d n)
      ⊢ iprop((iprop((owns (d : Thread nD τ) (wiP p c) fullShare (wiV m l d c) ∗ wiPts m l c d) ∗ semVal ((d : Thread nD τ), SemLoc.dma (wiSem p c)) 0 ∗ OW d n)
            -∗ wpD d (k ⟨⟩) Q)
          -∗ wpD d (.op (.waitDma2 (wiSem p c) (wiS l c) (wiQ p c) hsrc hdst) k) Q) := by
  unfold wiFl; exact waitIn m K d n (kindOf_wi p c) h2

/-- and of its second weights. -/
theorem waitWo (K : Dev nD × Kind → ℕ) (d : Dev nD) (l : Fin 3) (p : Fin 2) {Q : α → sProp 𝕄} (n : ℕ) (h2 : 2 ≤ n)
    {hsrc : (woA l).view.WordExact} {hdst : (woQ p).view.WordExact}
    {k : PUnit → Prog (TpuEff nD τ sig (Elt F) Λ₀ .tc) α} :
    iprop(Env m K ∗ woFl m l p d ∗ OW d n)
      ⊢ iprop((iprop((woIn m l p d ∗ woPts m l d) ∗ semVal ((d : Thread nD τ), SemLoc.dma (woSem p)) 0 ∗ OW d n)
            -∗ wpD d (k ⟨⟩) Q)
          -∗ wpD d (.op (.waitDma2 (woSem p) (woA l) (woQ p) hsrc hdst) k) Q) := by
  unfold woFl; exact waitIn m K d n (kindOf_wo p) h2

/-- One payment less. -/
theorem OW_step (d : Dev nD) (n : ℕ) {k : Kind} {b : Bool} (h : plan.drop n = (k, b) :: plan.drop (n + 1)) :
    Ow d (plan.drop n) = Ow d (plan.drop (n + 1)) + tallyAt (kcell (tgt d b) k) () (amt k) := by
  rw [h]; rfl

/-- Signalling neighbour `b`'s barrier, with the landing slots it will send into. -/
theorem sig1 (K : Dev nD × Kind → ℕ) (d : Dev nD) (b : Bool) {Q : α → sProp 𝕄} (n : ℕ) {d' : Dev nD} (hd : d' = tgt d b)
    (h : plan.drop n = (.bar, b) :: plan.drop (n + 1))
    {k : PUnit → Prog (TpuEff nD τ sig (Elt F) Λ₀ .tc) α} :
    iprop(Env m K ∗ OW d n ∗ dutyTok ER (kcell (tgt d b) .bar) 0 b ∗ (if b then landH d else landO d))
      ⊢ iprop((OW d (n + 1) -∗ wpD d (k ⟨⟩) Q) -∗ wpD d (.op (.semSignal (d' : Thread nD τ) barS 1) k) Q) := by
  subst hd
  unfold Env
  conv => lhs; unfold OW
  iintro ⟨⟨#Hrec, -⟩, ⟨%W, HO⟩, Ht, Hp⟩ Hk
  ihave #Hat := (recs_at m K (tgt d b) .bar) $$ Hrec
  icases Hat with ⟨#Hinv, #Hr⟩
  iapply (Rounds.wp_signal 𝒱₀ ER (Rd m) (d : Thread nD τ) none (dst := (tgt d b : Thread nD τ)) (κ := K (tgt d b, .bar))
      (d := b) (r := 0) (by rw [show ((tgt d b : Thread nD τ), SemLoc.reg barS) = kcell (tgt d b) .bar from rfl, Rd_duties]; exact Finset.mem_univ _)
      (Rd_amount m (tgt d b) .bar b) () (Ow d (plan.drop (n + 1))) (OW_step d n h)) $$ [HO Ht Hp]
  · isplitr; · iexact Hinv
    isplitl [HO]; · iexact HO
    isplitl [Ht]; · iexact Ht
    isplitl [Hp]
    · rw [show (Rd (F := F) m).payload ((tgt d b : Thread nD τ), SemLoc.reg barS) 0 b = (if b then landH d else landO d) from by
        rw [show ((tgt d b : Thread nD τ), SemLoc.reg barS) = kcell (tgt d b) .bar from rfl, Rd_payload]
        cases b
        · show landO (xp (xp d)) = landO d
          rw [xp_xp]
        · show landH (yp (yp d)) = landH d
          rw [yp_yp]]
      iexact Hp
    iexact Hr
  iintro HO
  iapply Hk
  unfold OW
  iexists W
  iexact HO

/-- Waiting on one's own barrier: both neighbours' landing slots. -/
theorem waitBar (K : Dev nD × Kind → ℕ) (d : Dev nD) {Q : α → sProp 𝕄}
    {k : PUnit → Prog (TpuEff nD τ sig (Elt F) Λ₀ .tc) α} :
    iprop(Env m K ∗ cred (tallyAt (kcell d .bar) () 2) ∗ atPos ER (kcell d .bar) 0 ∅ 0 ∗ OW d 2)
      ⊢ iprop((iprop(semVal (kcell d .bar) 0 ∗ landH (yp d) ∗ landO (xp d) ∗ OW d 2) -∗ wpD d (k ⟨⟩) Q)
          -∗ wpD d (.op (.semWait barS 2) k) Q) := by
  unfold Env OW
  iintro ⟨⟨#Hrec, #Hlev⟩, Hc, Hat, ⟨%W, HO⟩⟩ Hk
  ihave #Ha := (recs_at m K d .bar) $$ Hrec
  icases Ha with ⟨#Hinv, #Hr⟩
  iapply (Rounds.wp_wait_rest_token 𝒱₀ ER (Rd m) (d : Thread nD τ) none (κ := K (d, .bar))
      (wpE_semWait_eq 𝒱₀ (d : Thread nD τ) none Set.univ) (Set.mem_univ _) () (O := Ow d (plan.drop 2)) (W := W) (R := 0) (m := 0) (T := ∅)
      (by rw [show ((d : Thread nD τ), SemLoc.reg barS) = kcell d .bar from rfl, Rd_expect]; rfl)) $$ [Hc HO Hat]
  · isplitr; · iexact Hinv
    isplitl [Hc]; · iexact Hc
    isplitl [HO]; · iexact HO
    isplitr; · iapply (mayWait_n d (.reg barS) 2 (le_refl 2) (by decide)); iexact Hlev
    iexact Hat
  iintro ⟨HO, Hat, -, Hp⟩
  imod (cell_close ER (Rd m) (κ := K (d, .bar)) (g := kcell d .bar) (Es := Set.univ) (Set.mem_univ _) (fun h => h) (R := 0 + 1)
    (fun r hr => Rd_later m _ r hr)) $$ [Hat] with Hz
  · isplitr; · iexact Hinv
    iexact Hat
  ihave Hp := (show bigSep ((Rd (F := F) m).duties (kcell d .bar) 0 \ ∅) (fun b => (Rd (F := F) m).payload (kcell d .bar) 0 b)
      ⊢ iprop(landO (xp d) ∗ landH (yp d)) from Entails.of_eq (by
    rw [Finset.sdiff_empty, Rd_duties, show dut Kind.bar = Finset.univ from rfl, bigSep_univ_eq_bigSepL [false, true] (by decide) (by decide),
      bigSepL_cons_cons, bigSepL_singleton, Rd_payload, Rd_payload]
    rfl)) $$ Hp
  icases Hp with ⟨HpO, HpH⟩
  iapply Hk
  isplitl [Hz]; · iexact Hz
  isplitl [HpH]; · iexact HpH
  isplitl [HpO]; · iexact HpO
  iexists _
  iexact HO

/-- A wait on one of the exchange's transfer semaphores: its payload, and the semaphore at zero. -/
theorem waitT (K : Dev nD × Kind → ℕ) (d : Dev nD) (x : Kind) (hx : dut x = {false}) {Q : α → sProp 𝕄} (n : ℕ) {sem : DmaSem sig} (hs : semOf x = .dma sem)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt x) (h2 : 2 ≤ n) (hn : lvK x < n)
    {k : PUnit → Prog (TpuEff nD τ sig (Elt F) Λ₀ .tc) α} :
    iprop(Env m K ∗ cred (tallyAt (kcell d x) () (amt x)) ∗ atPos ER (kcell d x) 0 ∅ 0 ∗ OW d n)
      ⊢ iprop((iprop(semVal (kcell d x) 0 ∗ pay m d false x ∗ OW d n) -∗ wpD d (k ⟨⟩) Q)
          -∗ wpD d (.op (.waitDma2 sem srcw dstw hsrc hdst) k) Q) := by
  have hc : ((d : Thread nD τ), SemLoc.dma sem) = kcell d x := by rw [← hs]
  unfold Env OW
  iintro ⟨⟨#Hrec, #Hlev⟩, Hc, Hat, ⟨%W, HO⟩⟩ Hk
  ihave #Ha := (recs_at m K d x) $$ Hrec
  icases Ha with ⟨#Hinv, #Hr⟩
  iapply (Rounds.wp_wait_rest_token 𝒱₀ ER (Rd m) (d : Thread nD τ) none (κ := K (d, x)) (sm := SemLoc.dma sem) (k' := amt x)
      (w := .waitDma2 sem srcw dstw hsrc hdst)
      (fun Kt => by rw [← hN]; exact wpE_waitDma2_eq 𝒱₀ (d : Thread nD τ) none Set.univ Kt) (Set.mem_univ _) () (O := Ow d (plan.drop n)) (W := W) (R := 0) (m := 0) (T := ∅)
      (by rw [hc, Rd_expect, hx, Finset.card_singleton, one_mul, zero_add])) $$ [Hc HO Hat]
  · rw [hc]
    isplitr; · iexact Hinv
    isplitl [Hc]; · iexact Hc
    isplitl [HO]; · iexact HO
    isplitr; · iapply (mayWait_n d (.dma sem) n h2 (by rw [← hs, lvS_semOf]; exact hn)); iexact Hlev
    iexact Hat
  rw [hc]
  iintro ⟨HO, Hat, -, Hp⟩
  imod (cell_close ER (Rd m) (κ := K (d, x)) (g := kcell d x) (Es := Set.univ) (Set.mem_univ _) (fun h => h) (R := 0 + 1)
    (fun r hr => Rd_later m _ r hr)) $$ [Hat] with Hz
  · isplitr; · iexact Hinv
    iexact Hat
  ihave Hp := (show bigSep ((Rd (F := F) m).duties (kcell d x) 0 \ ∅) (fun b => (Rd (F := F) m).payload (kcell d x) 0 b)
      ⊢ pay m d false x from Entails.of_eq (by
    rw [Finset.sdiff_empty, Rd_duties, hx, bigSep_singleton, Rd_payload])) $$ Hp
  iapply Hk
  isplitl [Hz]; · iexact Hz
  isplitl [Hp]; · iexact Hp
  iexists _
  iexact HO

/-- The wait for a send to have left, -/
theorem waitS (K : Dev nD × Kind → ℕ) (d : Dev nD) (x y : Kind) (hx : dut x = {false}) {Q : α → sProp 𝕄} (n : ℕ) {sem : DmaSem sig} (hs : semOf x = .dma sem)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt x) (h2 : 2 ≤ n) (hn : lvK x < n)
    {k : PUnit → Prog (TpuEff nD τ sig (Elt F) Λ₀ .tc) α} :
    iprop(Env m K ∗ TB d x y ∗ OW d n)
      ⊢ iprop((iprop(TC d x y ∗ pay m d false x ∗ OW d n) -∗ wpD d (k ⟨⟩) Q)
          -∗ wpD d (.op (.waitDma2 sem srcw dstw hsrc hdst) k) Q) := by
  unfold TB TC
  iintro ⟨#He, ⟨Hc, Hat, Hr⟩, HO⟩ Hk
  iapply (waitT m K d x hx n hs hN h2 hn) $$ [Hc Hat HO]
  · isplitr; · iexact He
    isplitl [Hc]; · iexact Hc
    isplitl [Hat]; · iexact Hat
    iexact HO
  iintro ⟨Hz, Hp, HO⟩
  iapply Hk
  isplitl [Hz Hr]
  · isplitl [Hz]; · iexact Hz
    iexact Hr
  isplitl [Hp]; · iexact Hp
  iexact HO

/-- and for the neighbour's to have landed. -/
theorem waitR (K : Dev nD × Kind → ℕ) (d : Dev nD) (x y : Kind) (hy : dut y = {false}) {Q : α → sProp 𝕄} (n : ℕ) {sem : DmaSem sig} (hs : semOf y = .dma sem)
    {sp sp' : Space} {s s' : Shape} {e e' : EltTy} {srcw : Memref sig .tc sp' s' e'} {dstw : Memref sig .tc sp s e}
    {hsrc : srcw.view.WordExact} {hdst : dstw.view.WordExact} (hN : dstw.view.dmaCredit = amt y) (h2 : 2 ≤ n) (hn : lvK y < n)
    {k : PUnit → Prog (TpuEff nD τ sig (Elt F) Λ₀ .tc) α} :
    iprop(Env m K ∗ TC d x y ∗ OW d n)
      ⊢ iprop((iprop(TD d x y ∗ pay m d false y ∗ OW d n) -∗ wpD d (k ⟨⟩) Q)
          -∗ wpD d (.op (.waitDma2 sem srcw dstw hsrc hdst) k) Q) := by
  unfold TC TD
  iintro ⟨#He, ⟨Hx, Hat, Hc⟩, HO⟩ Hk
  iapply (waitT m K d y hy n hs hN h2 hn) $$ [Hc Hat HO]
  · isplitr; · iexact He
    isplitl [Hc]; · iexact Hc
    isplitl [Hat]; · iexact Hat
    iexact HO
  iintro ⟨Hz, Hp, HO⟩
  iapply Hk
  isplitl [Hz Hx]
  · isplitl [Hx]; · iexact Hx
    iexact Hz
  isplitl [Hp]; · iexact Hp
  iexact HO

/-- A transfer of a piece `A` into neighbour `b`'s piece `B`, both named without their leading unit axes. -/
theorem sendT (K : Dev nD × Kind → ℕ) (d : Dev nD) (b : Bool) (x y : Kind) (hx : dut x = {false}) (hy : dut y = {false})
    {Q : α → sProp 𝕄} (n : ℕ) {d' : Dev nD} (hd : d' = tgt d b) {sS sR : DmaSem sig} (hsS : semOf x = .dma sS) (hsR : semOf y = .dma sR)
    (hpl : plan.drop n = (y, b) :: plan.drop (n + 1)) {s s' : Shape} {e : EltTy} {A B : Memref sig .tc .vmem s e} (hq : s.Squeezes s')
    {v : s.Idx → Elt F e} (hNx : (B.squeeze s' hq).view.dmaCredit = amt x) (hNy : (B.squeeze s' hq).view.dmaCredit = amt y)
    (hpx : pay m d false x = owns (d : Thread nD τ) A fullShare v) (hpy : pay m (tgt d b) false y = owns (tgt d b : Thread nD τ) B fullShare v)
    {hsc : ((B.squeeze s' hq : Memref sig (Dev.tc d' : Thread nD τ).2.kind .vmem s' e)).view.ref.isScScratch = false}
    {hsrc : (A.squeeze s' hq).view.WordExact} {hdst : (B.squeeze s' hq).view.WordExact}
    {hsem : DmaTarget.Typed .vmem (.dma sR) (.remote (Dev.tc d' : Thread nD τ) (B.squeeze s' hq : Memref sig (Dev.tc d' : Thread nD τ).2.kind .vmem s' e) (.dma sS) hsc)}
    {k : PUnit → Prog (TpuEff nD τ sig (Elt F) Λ₀ .tc) α} :
    iprop(Env m K ∗ TA d b x y ∗ owns (d : Thread nD τ) A fullShare v ∗ (∃ w, owns (tgt d b : Thread nD τ) B fullShare w) ∗ OW d n)
      ⊢ iprop((iprop(TB d x y ∗ OW d (n + 1)) -∗ wpD d (k ⟨⟩) Q)
          -∗ wpD d (.op (.enqueueDma (A.squeeze s' hq) (.remote (Dev.tc d' : Thread nD τ) (B.squeeze s' hq) (.dma sS) hsc) (.dma sR) hsrc hdst hsem) k) Q) := by
  subst hd
  have hc : ((d : Thread nD τ), SemLoc.dma sS) = kcell d x := by rw [← hsS]
  have hc' : ((tgt d b : Thread nD τ), SemLoc.dma sR) = kcell (tgt d b) y := by rw [← hsR]
  unfold Env TA TB
  conv => lhs; unfold OW owns
  iintro ⟨⟨#Hrec, -⟩, ⟨Htx, Hty, Hax, Hay, Hcy⟩, ⟨%f, %hf, HA⟩, ⟨%w, ⟨%g, %hg, HB⟩⟩, ⟨%W, HO⟩⟩ Hk
  ihave #H1 := (recs_at m K d x) $$ Hrec
  icases H1 with ⟨#Hi1, #Hr1⟩
  ihave #H2 := (recs_at m K (tgt d b) y) $$ Hrec
  icases H2 with ⟨#Hi2, #Hr2⟩
  iapply (Rounds.wp_send_pointsTo 𝒱₀ ER (Rd m) (d : Thread nD τ) none (c' := (Dev.tc (tgt d b) : Thread nD τ)) (src := A.squeeze s' hq) (dst := B.squeeze s' hq)
    (sS := .dma sS) (sem := .dma sR) (hsc := hsc) (hsrc := hsrc) (hdst := hdst) (hsem := hsem) (q := fullShare) (fs := f) (fd := g)
    (κ₁ := K (d, x)) (κ₂ := K (tgt d b, y)) (r₁ := 0) (r₂ := 0) (d₁ := false) (d₂ := false)
    (by rw [hc, Rd_duties, hx]; exact Finset.mem_singleton_self _) (by rw [hc', Rd_duties, hy]; exact Finset.mem_singleton_self _)
    (O₀ := Ow d (plan.drop n)) () () (amt y) hNy (by rw [hc, Rd_amount, ← hNx, hNy]) (by rw [hc', Rd_amount]) (Ow d (plan.drop (n + 1)))
    (by rw [hc']; exact OW_step d n hpl) (W := W)
    (by
      rw [hc, Rd_payload, hpx, View.set_reshape]
      unfold owns
      iintro H; iexists f
      isplitr; · ipureintro; exact hf
      iexact H)
    (by
      rw [hc', Rd_payload, hpy, View.set_reshape]
      unfold owns
      iintro H
      iexists _
      isplitr [H]; rotate_left; · iexact H
      ipureintro
      rw [← hf]
      refine (congrArg (B.view.read (Elt F)) (View.write_reshape_univ (v := B.view) (s' := s') hq.numel_eq g _)).trans
        ((View.read_write_univ (v := B.view) g _).trans (funext fun i => ?_))
      show A.view.read (Elt F) f (Shape.reshapeEquiv hq.numel_eq ((Shape.reshapeEquiv hq.numel_eq).symm i)) = _
      rw [Equiv.apply_symm_apply])) $$ [HA HB HO Htx Hty]
  · rw [hc, hc', View.set_reshape, View.set_reshape]
    isplitr; · iexact Hi1
    isplitr; · iexact Hi2
    isplitl [HA]; · iexact HA
    isplitl [HB]; · iexact HB
    isplitl [HO]; · iexact HO
    isplitl [Htx]; · iexact Htx
    isplitr; · iexact Hr1
    isplitl [Hty]; · iexact Hty
    iexact Hr2
  rw [hc]
  iintro ⟨Hcx, HO⟩
  iapply Hk
  isplitl [Hcx Hax Hay Hcy]
  · isplitl [Hcx]; · rw [show amt x = amt y from hNx.symm.trans hNy]; iexact Hcx
    isplitl [Hax]; · iexact Hax
    isplitl [Hay]; · iexact Hay
    iexact Hcy
  unfold OW
  iexists W
  iexact HO

theorem planH (l : Fin 3) (c : Fin 4) : plan.drop (2 + 5 * l.val + c.val) = (.rH l c, true) :: plan.drop (2 + 5 * l.val + c.val + 1) := by
  revert l c; decide
theorem planO (l : Fin 3) : plan.drop (6 + 5 * l.val) = (.rO l, false) :: plan.drop (6 + 5 * l.val + 1) := by revert l; decide

/-- Sending chunk `c` of layer `l`'s hidden partial to the neighbour along `y`, -/
theorem sendH (K : Dev nD × Kind → ℕ) (d : Dev nD) (l : Fin 3) (c : Fin 4) {Q : α → sProp 𝕄} {d' : Dev nD} (hd : d' = tgt d true)
    {hsc : ((lhQ l c : Memref sig (Dev.tc d' : Thread nD τ).2.kind .vmem S64x512 .bf16)).view.ref.isScScratch = false}
    {hsrc : (shQ l c).view.WordExact} {hdst : (lhQ l c).view.WordExact}
    {hsem : DmaTarget.Typed .vmem (.dma (rHS l c)) (.remote (Dev.tc d' : Thread nD τ) (lhQ l c : Memref sig (Dev.tc d' : Thread nD τ).2.kind .vmem S64x512 .bf16) (.dma (sHS l c)) hsc)}
    {k : PUnit → Prog (TpuEff nD τ sig (Elt F) Λ₀ .tc) α} :
    iprop(Env m K ∗ TA d true (.sH l c) (.rH l c) ∗ owns (d : Thread nD τ) (shP l c) fullShare (stV m l d c)
        ∗ (∃ w, owns (tgt d true : Thread nD τ) (lhP l c) fullShare w) ∗ OW d (2 + 5 * l.val + c.val))
      ⊢ iprop((iprop(TB d (.sH l c) (.rH l c) ∗ OW d (2 + 5 * l.val + c.val + 1)) -∗ wpD d (k ⟨⟩) Q)
          -∗ wpD d (.op (.enqueueDma (shQ l c) (.remote (Dev.tc d' : Thread nD τ) (lhQ l c) (.dma (sHS l c)) hsc) (.dma (rHS l c)) hsrc hdst hsem) k) Q) :=
  sendT m K d true (.sH l c) (.rH l c) rfl rfl (2 + 5 * l.val + c.val) hd rfl rfl (planH l c) squeezes_S1x1x64x512_S64x512
    (A := shP l c) (B := lhP l c) rfl rfl rfl
    (by rw [show pay m (tgt d true) false (.rH l c) = pay m (yp d) false (.rH l c) from rfl]; unfold pay; rw [yp_yp]; rfl)

/-- and layer `l`'s output partial to the neighbour along `x`. -/
theorem sendO (K : Dev nD × Kind → ℕ) (d : Dev nD) (l : Fin 3) {Q : α → sProp 𝕄} {d' : Dev nD} (hd : d' = tgt d false)
    {hsc : ((loQ l : Memref sig (Dev.tc d' : Thread nD τ).2.kind .vmem S64x1024 .bf16)).view.ref.isScScratch = false}
    {hsrc : (soQ l).view.WordExact} {hdst : (loQ l).view.WordExact}
    {hsem : DmaTarget.Typed .vmem (.dma (rOS l)) (.remote (Dev.tc d' : Thread nD τ) (loQ l : Memref sig (Dev.tc d' : Thread nD τ).2.kind .vmem S64x1024 .bf16) (.dma (sOS l)) hsc)}
    {k : PUnit → Prog (TpuEff nD τ sig (Elt F) Λ₀ .tc) α} :
    iprop(Env m K ∗ TA d false (.sO l) (.rO l) ∗ owns (d : Thread nD τ) (soP l) fullShare (soV m l d)
        ∗ (∃ w, owns (tgt d false : Thread nD τ) (loP l) fullShare w) ∗ OW d (6 + 5 * l.val))
      ⊢ iprop((iprop(TB d (.sO l) (.rO l) ∗ OW d (6 + 5 * l.val + 1)) -∗ wpD d (k ⟨⟩) Q)
          -∗ wpD d (.op (.enqueueDma (soQ l) (.remote (Dev.tc d' : Thread nD τ) (loQ l) (.dma (sOS l)) hsc) (.dma (rOS l)) hsrc hdst hsem) k) Q) :=
  sendT m K d false (.sO l) (.rO l) rfl rfl (6 + 5 * l.val) hd rfl rfl (planO l) squeezes_S1x64x1024_S64x1024
    (A := soP l) (B := loP l) rfl rfl rfl
    (by rw [show pay m (tgt d false) false (.rO l) = pay m (xp d) false (.rO l) from rfl]; unfold pay; rw [xp_xp]; rfl)

end Cert.Stack

end

end
-- ==== Proof.Parts.lean ====
/-
# The kernel's parts at its own buffers, and the steps that recur in every layer
-/
module

public import proofs.«01_k».proof.Proof.Steps

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-! ## The parts of the kernel's text -/

/-- A part of the kernel's text at the launch's buffers. -/
abbrev on {β : Type 1} (p : (arg0 : Memref sig .tc .vmem S64x1024 .f32) → (harg0 : arg0.IsWhole) → (arg1 : Memref sig .tc .hbm S1024x2048 .f32) → (harg1 : arg1.IsWhole) → (arg2 : Memref sig .tc .hbm S2048x1024 .f32) → (harg2 : arg2.IsWhole) → (arg3 : Memref sig .tc .hbm S1024x2048 .f32) → (harg3 : arg3.IsWhole) → (arg4 : Memref sig .tc .hbm S2048x1024 .f32) → (harg4 : arg4.IsWhole) → (arg5 : Memref sig .tc .hbm S1024x2048 .f32) → (harg5 : arg5.IsWhole) → (arg6 : Memref sig .tc .hbm S2048x1024 .f32) → (harg6 : arg6.IsWhole) → (arg7 : Memref sig .tc .vmem S64x1024 .f32) → (harg7 : arg7.IsWhole) → (arg8 : Memref sig .tc .vmem S2x1024x2048 .f32) → (harg8 : arg8.IsWhole) → (arg9 : Memref sig .tc .vmem S2x2048x1024 .f32) → (harg9 : arg9.IsWhole) → (arg10 : Memref sig .tc .vmem S64x2048 .f32) → (harg10 : arg10.IsWhole) → (arg11 : Memref sig .tc .vmem S64x2048 .f32) → (harg11 : arg11.IsWhole) → (arg12 : Memref sig .tc .vmem S3x4x64x512 .bf16) → (harg12 : arg12.IsWhole) → (arg13 : Memref sig .tc .vmem S3x4x64x512 .bf16) → (harg13 : arg13.IsWhole) → (arg14 : Memref sig .tc .vmem S3x64x1024 .bf16) → (harg14 : arg14.IsWhole) → (arg15 : Memref sig .tc .vmem S3x64x1024 .bf16) → (harg15 : arg15.IsWhole) → (arg16 : DmaSems sig S2x4) → (arg17 : DmaSems sig S2) → (arg18 : DmaSems sig S3x4) → (arg19 : DmaSems sig S3x4) → (arg20 : DmaSems sig S3) → (arg21 : DmaSems sig S3) → β) : β :=
  p (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13

/-! ## The neighbours the text names -/

theorem dev1_eq (d : Dev nD) : (⟨k0_dev1 d, k0_dev1_lt d⟩ : Dev nD) = tgt d true := by revert d; decide
theorem dev2_eq (d : Dev nD) : (⟨k0_dev2 d, k0_dev2_lt d⟩ : Dev nD) = tgt d false := by revert d; decide
theorem dev3_eq (d : Dev nD) : (⟨k0_dev3 d, k0_dev3_lt d⟩ : Dev nD) = tgt d true := by revert d; decide
theorem dev4_eq (d : Dev nD) : (⟨k0_dev4 d, k0_dev4_lt d⟩ : Dev nD) = tgt d true := by revert d; decide
theorem dev5_eq (d : Dev nD) : (⟨k0_dev5 d, k0_dev5_lt d⟩ : Dev nD) = tgt d true := by revert d; decide
theorem dev6_eq (d : Dev nD) : (⟨k0_dev6 d, k0_dev6_lt d⟩ : Dev nD) = tgt d true := by revert d; decide
theorem dev7_eq (d : Dev nD) : (⟨k0_dev7 d, k0_dev7_lt d⟩ : Dev nD) = tgt d false := by revert d; decide
theorem dev8_eq (d : Dev nD) : (⟨k0_dev8 d, k0_dev8_lt d⟩ : Dev nD) = tgt d true := by revert d; decide
theorem dev9_eq (d : Dev nD) : (⟨k0_dev9 d, k0_dev9_lt d⟩ : Dev nD) = tgt d true := by revert d; decide
theorem dev10_eq (d : Dev nD) : (⟨k0_dev10 d, k0_dev10_lt d⟩ : Dev nD) = tgt d true := by revert d; decide
theorem dev11_eq (d : Dev nD) : (⟨k0_dev11 d, k0_dev11_lt d⟩ : Dev nD) = tgt d true := by revert d; decide
theorem dev12_eq (d : Dev nD) : (⟨k0_dev12 d, k0_dev12_lt d⟩ : Dev nD) = tgt d false := by revert d; decide
theorem dev13_eq (d : Dev nD) : (⟨k0_dev13 d, k0_dev13_lt d⟩ : Dev nD) = tgt d true := by revert d; decide
theorem dev14_eq (d : Dev nD) : (⟨k0_dev14 d, k0_dev14_lt d⟩ : Dev nD) = tgt d true := by revert d; decide
theorem dev15_eq (d : Dev nD) : (⟨k0_dev15 d, k0_dev15_lt d⟩ : Dev nD) = tgt d true := by revert d; decide
theorem dev16_eq (d : Dev nD) : (⟨k0_dev16 d, k0_dev16_lt d⟩ : Dev nD) = tgt d true := by revert d; decide
theorem dev17_eq (d : Dev nD) : (⟨k0_dev17 d, k0_dev17_lt d⟩ : Dev nD) = tgt d false := by revert d; decide

/-! ## The payloads that are the same function -/

section Payloads
theorem pay5_eq : k0_pay5 (F := F) = k0_pay3 := rfl
theorem pay7_eq : k0_pay7 (F := F) = k0_pay3 := rfl
theorem pay9_eq : k0_pay9 (F := F) = k0_pay3 := rfl
theorem pay17_eq : k0_pay17 (F := F) = k0_pay16 := rfl
theorem pay18_eq : k0_pay18 (F := F) = k0_pay16 := rfl
theorem pay40_eq : k0_pay40 (F := F) = k0_pay16 := rfl
theorem pay41_eq : k0_pay41 (F := F) = k0_pay16 := rfl
theorem pay42_eq : k0_pay42 (F := F) = k0_pay16 := rfl
theorem pay43_eq : k0_pay43 (F := F) = k0_pay16 := rfl
theorem pay6_eq : k0_pay6 (F := F) = k0_pay4 := rfl
theorem pay8_eq : k0_pay8 (F := F) = k0_pay4 := rfl
theorem pay10_eq : k0_pay10 (F := F) = k0_pay4 := rfl
theorem pay23_eq : k0_pay23 (F := F) = k0_pay4 := rfl
theorem pay27_eq : k0_pay27 (F := F) = k0_pay4 := rfl
theorem pay30_eq : k0_pay30 (F := F) = k0_pay4 := rfl
theorem pay33_eq : k0_pay33 (F := F) = k0_pay4 := rfl
theorem pay51_eq : k0_pay51 (F := F) = k0_pay4 := rfl
theorem pay53_eq : k0_pay53 (F := F) = k0_pay4 := rfl
theorem pay54_eq : k0_pay54 (F := F) = k0_pay11 := rfl
theorem pay13_eq : k0_pay13 (F := F) = k0_pay12 := rfl
theorem pay14_eq : k0_pay14 (F := F) = k0_pay12 := rfl
theorem pay36_eq : k0_pay36 (F := F) = k0_pay12 := rfl
theorem pay37_eq : k0_pay37 (F := F) = k0_pay12 := rfl
theorem pay38_eq : k0_pay38 (F := F) = k0_pay12 := rfl
theorem pay59_eq : k0_pay59 (F := F) = k0_pay12 := rfl
theorem pay39_eq : k0_pay39 (F := F) = k0_pay15 := rfl
theorem pay60_eq : k0_pay60 (F := F) = k0_pay15 := rfl
theorem pay47_eq : k0_pay47 (F := F) = k0_pay44 := rfl
theorem pay50_eq : k0_pay50 (F := F) = k0_pay44 := rfl
theorem pay52_eq : k0_pay52 (F := F) = k0_pay44 := rfl

/-! Two halves of a payload, read in parts, are the payload. -/
theorem pay20_19 (a : FVec F S64x1024 .f32) (b : Vec F S1x1024x512 .f32) : k0_pay20 (k0_pay19 a b) = k0_pay16 a b := rfl
theorem pay22_21 (a : Vec F S64x512 .f32) (b : Vec F S1x64x1024 .bf16) (c : Vec F S1x1024x512 .f32) : k0_pay22 (k0_pay21 a b c) = k0_pay44 a b c := rfl
theorem pay26_24 (a : Vec F S64x512 .f32) (b : Vec F S1x64x1024 .bf16) (c : Vec F S1x1024x512 .f32) :
    k0_pay26 a (k0_pay24 b) (k0_pay25 c) (constant S64x512 .f32 0x00000000#32) = k0_pay44 a b c := rfl
theorem pay29_28 (a : Vec F S64x512 .f32) (b : Vec F S1x64x1024 .bf16) (c : Vec F S1x1024x512 .f32) : k0_pay29 a (k0_pay28 b) c = k0_pay44 a b c := rfl
theorem pay32_31 (a : Vec F S64x512 .f32) (b : Vec F S1x64x1024 .bf16) (c : Vec F S1x1024x512 .f32) : k0_pay32 a (k0_pay31 b) c = k0_pay44 a b c := rfl
theorem pay35_34 (a : Vec F S64x512 .f32) (b : Vec F S1x1x64x512 .bf16) (c : Vec F S1x512x1024 .f32) : k0_pay35 (k0_pay34 a b) c = k0_pay11 a b c := rfl
theorem pay46_45 (a : Vec F S64x512 .f32) : k0_pay46 (k0_pay45 a) = k0_pay4 a := rfl
theorem pay49_48 (a : Vec F S64x512 .f32) : k0_pay49 (k0_pay48 a) = k0_pay4 a := rfl
theorem pay56_55 (o : FVec F S64x1024 .f32) (a : Vec F S64x512 .f32) (b : Vec F S1x1x64x512 .bf16) (c : Vec F S1x512x1024 .f32) :
    k0_pay56 o (k0_pay55 a b) c = k0_pay12 o a b c := rfl
theorem pay58_57 (o : FVec F S64x1024 .f32) (a : Vec F S64x512 .f32) (b : Vec F S1x1x64x512 .bf16) (c : Vec F S1x512x1024 .f32) :
    k0_pay58 o a (k0_pay57 b) c = k0_pay12 o a b c := rfl

end Payloads

end Cert.Stack

end

end
-- ==== Proof.Chunks.lean ====
/-
# The runs of steps that recur in every layer: sending a chunk, receiving one, multiplying ahead, exchanging the outputs
-/
module

public import proofs.«01_k».proof.Proof.Parts

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-- A slot holding layer `l`'s first weights, the transfer over. -/
def wiHas (l : Fin 3) (p : Fin 2) (c : Fin 4) (d : Dev nD) : sProp 𝕄 :=
  iprop(owns (d : Thread nD τ) (wiP p c) fullShare (wiV m l d c) ∗ semVal ((d : Thread nD τ), SemLoc.dma (wiSem p c)) 0)
/-- Plane `p` of the second weights' buffer holding layer `l`'s, the transfer over. -/
def woHas (l : Fin 3) (p : Fin 2) (d : Dev nD) : sProp 𝕄 :=
  iprop(woIn m l p d ∗ semVal ((d : Thread nD τ), SemLoc.dma (woSem p)) 0)

/-- The plane as a piece. -/
theorem woIn_owns (l : Fin 3) (p : Fin 2) (d : Dev nD) : woIn m l p d ⊢ iprop(∃ w, owns (d : Thread nD τ) (woPl p) fullShare w) := by
  unfold woIn owns
  iintro H
  iexists _
  iexists (woB m l p d)
  isplitr
  · ipureintro; rfl
  · iexact H

theorem NH_s (l : Fin 3) (c : Fin 4) : (shQ l c).view.dmaCredit = NH := by
  show sig.dmaCredit .tc (Kind.table .tc .vmem) 6 S64x512 .bf16 = sig.dmaCredit .tc (Kind.table .tc .vmem) 7 S64x512 .bf16
  rfl
theorem NH_r (l : Fin 3) (c : Fin 4) : (lhQ l c).view.dmaCredit = NH := by
  show sig.dmaCredit .tc (Kind.table .tc .vmem) 7 S64x512 .bf16 = sig.dmaCredit .tc (Kind.table .tc .vmem) 7 S64x512 .bf16
  rfl
theorem NO_s (l : Fin 3) : (soQ l).view.dmaCredit = NO := by
  show sig.dmaCredit .tc (Kind.table .tc .vmem) 8 S64x1024 .bf16 = sig.dmaCredit .tc (Kind.table .tc .vmem) 9 S64x1024 .bf16
  rfl
theorem NO_r (l : Fin 3) : (loQ l).view.dmaCredit = NO := by
  show sig.dmaCredit .tc (Kind.table .tc .vmem) 9 S64x1024 .bf16 = sig.dmaCredit .tc (Kind.table .tc .vmem) 9 S64x1024 .bf16
  rfl

/-- The rows loaded lie in the plane. -/
theorem woR_sub (p : Fin 2) (c : Fin 4) : woM.view.setOn (woR p c).set ⊆ (woPl p).view.set := by
  show woM.view.setOn (woR p c).set ⊆ (woM.view.slice (woP p)).set
  rw [View.set_slice]
  refine Finset.map_subset_map.mpr fun i hi => ?_
  rw [Rect.mem_set_unit] at hi ⊢
  have h0 := hi 0
  have h1 := hi 1
  have h2 := hi 2
  have := c.isLt
  simp [Fin.forall_fin_succ] at hi ⊢
  omega

/-- What chunk `c` of layer `l`'s hidden exchange takes to start, -/
def hReady (l : Fin 3) (c : Fin 4) (d : Dev nD) : sProp 𝕄 :=
  iprop(TA d true (.sH l c) (.rH l c) ∗ (∃ w, owns (d : Thread nD τ) (shP l c) fullShare w) ∗ (∃ w, owns (tgt d true : Thread nD τ) (lhP l c) fullShare w))
/-- and what it leaves. -/
def hDone (l : Fin 3) (c : Fin 4) (d : Dev nD) : sProp 𝕄 :=
  iprop(TD d (.sH l c) (.rH l c) ∗ owns (d : Thread nD τ) (shP l c) fullShare (stV m l d c) ∗ owns (d : Thread nD τ) (lhP l c) fullShare (stV m l (yp d) c))
/-- The same of layer `l`'s output exchange. -/
def oReady (l : Fin 3) (d : Dev nD) : sProp 𝕄 :=
  iprop(TA d false (.sO l) (.rO l) ∗ (∃ w, owns (d : Thread nD τ) (soP l) fullShare w) ∗ (∃ w, owns (tgt d false : Thread nD τ) (loP l) fullShare w))
def oRest (l : Fin 3) (d : Dev nD) : sProp 𝕄 :=
  iprop(TD d (.sO l) (.rO l) ∗ owns (d : Thread nD τ) (soP l) fullShare (soV m l d))
abbrev oLand (l : Fin 3) (d : Dev nD) : sProp 𝕄 := owns (d : Thread nD τ) (loP l) fullShare (soV m l (xp d))

abbrev hHas (l : Fin 3) (c : Fin 4) (d : Dev nD) : sProp 𝕄 := owns (d : Thread nD τ) (hP c) fullShare (hV m l d c)

/-- Storing chunk `c` of layer `l`'s hidden partial, staging it and sending it. -/
theorem chunkSend (K : Dev nD × Kind → ℕ) (d : Dev nD) (l : Fin 3) (c : Fin 4) {Q : α → sProp 𝕄} {d' : Dev nD} (hd : d' = tgt d true)
    {w : S64x512.Idx → Elt F .f32} (hw : w = hV m l d c)
    {hl₁ hl₂ : hM.view.LoadsAt (cR c).toLoadRect} {hx₁ : (hM.access (cR c)).Stores Finset.univ} {hm₁}
    {hl₃ : shM.view.LoadsAt (hR l c).toLoadRect} {hx₂ : (shM.access (hR l c)).Stores Finset.univ} {hm₂}
    {hsc : ((lhQ l c : Memref sig (Dev.tc d' : Thread nD τ).2.kind .vmem S64x512 .bf16)).view.ref.isScScratch = false}
    {hsrc : (shQ l c).view.WordExact} {hdst : (lhQ l c).view.WordExact}
    {hsem : DmaTarget.Typed .vmem (.dma (rHS l c)) (.remote (Dev.tc d' : Thread nD τ) (lhQ l c : Memref sig (Dev.tc d' : Thread nD τ).2.kind .vmem S64x512 .bf16) (.dma (sHS l c)) hsc)}
    {k : PUnit → Prog (TpuEff nD τ sig (Elt F) Λ₀ .tc) α} :
    iprop(Env m K ∗ hReady l c d ∗ (∃ u, owns (d : Thread nD τ) (hP c) fullShare u) ∗ OW d (2 + 5 * l.val + c.val))
      ⊢ iprop((iprop(TB d (.sH l c) (.rH l c) ∗ hHas m l c d ∗ OW d (2 + 5 * l.val + c.val + 1)) -∗ wpD d (k ⟨⟩) Q)
        -∗ wpD d (.op (.load hM (cR c).toLoadRect hl₁) fun _ => .op (.store hM (cR c) w Finset.univ hx₁ hm₁) fun _ =>
            .op (.load hM (cR c).toLoadRect hl₂) fun v => .op (.load shM (hR l c).toLoadRect hl₃) fun _ =>
            .op (.store shM (hR l c) (k0_pay4 v) Finset.univ hx₂ hm₂) fun _ =>
            .op (.enqueueDma (shQ l c) (.remote (Dev.tc d' : Thread nD τ) (lhQ l c) (.dma (sHS l c)) hsc) (.dma (rHS l c)) hsrc hdst hsem) k) Q) := by
  subst hw
  unfold hReady
  iintro ⟨#He, ⟨HT, ⟨%a, Ha⟩, Hb⟩, ⟨%u, Hh⟩, HO⟩ Hk
  iapply (ld d (M := hM) (r := cR c) (hs := fun _ => rfl)) $$ Hh
  iintro Hh
  iapply (st d (M := hM) (r := cR c) (hs := fun _ => rfl)) $$ Hh
  iintro Hh
  iapply (ld d (M := hM) (r := cR c) (hs := fun _ => rfl)) $$ Hh
  iintro Hh
  iapply (ld d (M := shM) (r := hR l c) (hs := fun _ => rfl)) $$ Ha
  iintro Ha
  iapply (st d (M := shM) (r := hR l c) (hs := fun _ => rfl)) $$ Ha
  iintro Ha
  iapply (sendH m K d l c hd) $$ [HT Ha Hb HO]
  · iframe He HT Ha Hb HO
  iintro ⟨HT, HO⟩
  iapply Hk
  iframe HT Hh HO

/-- Waiting for chunk `c` of layer `l` to have left and for the neighbour's to have landed, and loading both with the
    weights' rows. -/
theorem chunkRecv (K : Dev nD × Kind → ℕ) (d : Dev nD) (l : Fin 3) (p : Fin 2) (c : Fin 4) {Q : α → sProp 𝕄} (n : ℕ) (h2 : 2 ≤ n) (hn : 2 + 5 * l.val + c.val < n)
    {hs₁ : (lhQ l c).view.WordExact} {hd₁ : (shQ l c).view.WordExact} {hs₂ : (shQ l c).view.WordExact} {hd₂ : (lhQ l c).view.WordExact}
    {hl₁ : hM.view.LoadsAt (cR c).toLoadRect} {hl₂ : lhM.view.LoadsAt (hR l c).toLoadRect} {hl₃ : woM.view.LoadsAt (woR p c).toLoadRect}
    {k : (S64x512.Idx → Elt F .f32) → (S1x1x64x512.Idx → Elt F .bf16) → (S1x512x1024.Idx → Elt F .f32) → Prog (TpuEff nD τ sig (Elt F) Λ₀ .tc) α} :
    iprop(Env m K ∗ TB d (.sH l c) (.rH l c) ∗ hHas m l c d ∗ woHas m l p d ∗ OW d n)
      ⊢ iprop((iprop(hDone m l c d ∗ hHas m l c d ∗ woHas m l p d ∗ OW d n)
          -∗ wpD d (k (hV m l d c) (stV m l (yp d) c) (woV m l p d c)) Q)
        -∗ wpD d (.op (.waitDma2 (sHS l c) (lhQ l c) (shQ l c) hs₁ hd₁) fun _ => .op (.waitDma2 (rHS l c) (shQ l c) (lhQ l c) hs₂ hd₂) fun _ =>
            .op (.load hM (cR c).toLoadRect hl₁) fun a => .op (.load lhM (hR l c).toLoadRect hl₂) fun b =>
            .op (.load woM (woR p c).toLoadRect hl₃) fun w => k a b w) Q) := by
  unfold woHas woIn
  iintro ⟨#He, HT, Hh, ⟨Hw, Hz⟩, HO⟩ Hk
  iapply (waitS m K d (.sH l c) (.rH l c) rfl n rfl (NH_s l c) h2 (by show 0 < n; omega)) $$ [HT HO]
  · iframe He HT HO
  iintro ⟨HT, Ha, HO⟩
  iapply (waitR m K d (.sH l c) (.rH l c) rfl n rfl (NH_r l c) h2 hn) $$ [HT HO]
  · iframe He HT HO
  unfold pay
  iintro ⟨HT, Hb, HO⟩
  iapply (ld d (M := hM) (r := cR c) (hs := fun _ => rfl)) $$ Hh
  iintro Hh
  iapply (ld d (M := lhM) (r := hR l c) (hs := fun _ => rfl)) $$ Hb
  iintro Hb
  iapply (ldIn d (M := woM) (r := woR p c) (S := (woPl p).view.set) (woR_sub p c)) $$ Hw
  iintro Hw
  iapply Hk
  unfold hDone
  iframe HT Ha Hb Hh Hw Hz HO

/-- Waiting for columns of the next layer's first weights and multiplying the own output partial into them. -/
theorem chunkAhead (K : Dev nD × Kind → ℕ) (d : Dev nD) (l : Fin 3) (p : Fin 2) (c : Fin 4) {Q : α → sProp 𝕄} (n : ℕ) (h2 : 2 ≤ n) {o : FVec F S64x1024 .f32}
    {hs₁ : (wiS l c).view.WordExact} {hd₁ : (wiQ p c).view.WordExact}
    {hl₁ : wiM.view.LoadsAt (wiR p c).toLoadRect} {hl₂ : aM.view.LoadsAt (cR c).toLoadRect} {hx : (aM.access (cR c)).Stores Finset.univ} {hm}
    {k : PUnit → Prog (TpuEff nD τ sig (Elt F) Λ₀ .tc) α} :
    iprop(Env m K ∗ wiFl m l p c d ∗ (∃ u, owns (d : Thread nD τ) (aP c) fullShare u) ∗ OW d n)
      ⊢ iprop((iprop(wiHas m l p c d ∗ wiPts m l c d ∗ owns (d : Thread nD τ) (aP c) fullShare (k0_pay16 o (wiV m l d c)) ∗ OW d n) -∗ wpD d (k ⟨⟩) Q)
        -∗ wpD d (.op (.waitDma2 (wiSem p c) (wiS l c) (wiQ p c) hs₁ hd₁) fun _ => .op (.load wiM (wiR p c).toLoadRect hl₁) fun v =>
            .op (.load aM (cR c).toLoadRect hl₂) fun _ => .op (.store aM (cR c) (k0_pay16 o v) Finset.univ hx hm) k) Q) := by
  iintro ⟨#He, Hf, ⟨%u, Ha⟩, HO⟩ Hk
  iapply (waitWi m K d l p c n h2) $$ [Hf HO]
  · iframe He Hf HO
  iintro ⟨⟨Hw, Hp⟩, Hz, HO⟩
  iapply (ld d (M := wiM) (r := wiR p c) (hs := fun _ => rfl)) $$ Hw
  iintro Hw
  iapply (ld d (M := aM) (r := cR c) (hs := fun _ => rfl)) $$ Ha
  iintro Ha
  iapply (st d (M := aM) (r := cR c) (hs := fun _ => rfl)) $$ Ha
  iintro Ha
  iapply Hk
  unfold wiHas
  iframe Hw Hz Hp Ha HO

/-- Loading what the next layer's chunk `c` is made of. -/
theorem chunkNext (d : Dev nD) (l l' : Fin 3) (p : Fin 2) (c : Fin 4) {Q : α → sProp 𝕄} {a : S64x512.Idx → Elt F .f32}
    {hl₁ : aM.view.LoadsAt (cR c).toLoadRect} {hl₂ : loM.view.LoadsAt (oR l).toLoadRect} {hl₃ : wiM.view.LoadsAt (wiR p c).toLoadRect}
    {k : (S64x512.Idx → Elt F .f32) → (S1x64x1024.Idx → Elt F .bf16) → (S1x1024x512.Idx → Elt F .f32) → Prog (TpuEff nD τ sig (Elt F) Λ₀ .tc) α} :
    iprop(owns (d : Thread nD τ) (aP c) fullShare a ∗ oLand m l d ∗ wiHas m l' p c d)
      ⊢ iprop((iprop(owns (d : Thread nD τ) (aP c) fullShare a ∗ oLand m l d ∗ wiHas m l' p c d) -∗ wpD d (k a (soV m l (xp d)) (wiV m l' d c)) Q)
        -∗ wpD d (.op (.load aM (cR c).toLoadRect hl₁) fun a => .op (.load loM (oR l).toLoadRect hl₂) fun b =>
            .op (.load wiM (wiR p c).toLoadRect hl₃) fun w => k a b w) Q) := by
  unfold wiHas
  iintro ⟨Ha, Hb, ⟨Hw, Hz⟩⟩ Hk
  iapply (ld d (M := aM) (r := cR c) (hs := fun _ => rfl)) $$ Ha
  iintro Ha
  iapply (ld d (M := loM) (r := oR l) (hs := fun _ => rfl)) $$ Hb
  iintro Hb
  iapply (ld d (M := wiM) (r := wiR p c) (hs := fun _ => rfl)) $$ Hw
  iintro Hw
  iapply Hk
  iframe Ha Hb Hw Hz

/-- Staging layer `l`'s output partial and sending it. -/
theorem outSend (K : Dev nD × Kind → ℕ) (d : Dev nD) (l : Fin 3) {Q : α → sProp 𝕄} {d' : Dev nD} (hd : d' = tgt d false)
    {w : S1x64x1024.Idx → Elt F .bf16} (hw : w = soV m l d)
    {hl : soM.view.LoadsAt (oR l).toLoadRect} {hx : (soM.access (oR l)).Stores Finset.univ} {hm}
    {hsc : ((loQ l : Memref sig (Dev.tc d' : Thread nD τ).2.kind .vmem S64x1024 .bf16)).view.ref.isScScratch = false}
    {hsrc : (soQ l).view.WordExact} {hdst : (loQ l).view.WordExact}
    {hsem : DmaTarget.Typed .vmem (.dma (rOS l)) (.remote (Dev.tc d' : Thread nD τ) (loQ l : Memref sig (Dev.tc d' : Thread nD τ).2.kind .vmem S64x1024 .bf16) (.dma (sOS l)) hsc)}
    {k : PUnit → Prog (TpuEff nD τ sig (Elt F) Λ₀ .tc) α} :
    iprop(Env m K ∗ oReady l d ∗ OW d (6 + 5 * l.val))
      ⊢ iprop((iprop(TB d (.sO l) (.rO l) ∗ OW d (6 + 5 * l.val + 1)) -∗ wpD d (k ⟨⟩) Q)
        -∗ wpD d (.op (.load soM (oR l).toLoadRect hl) fun _ => .op (.store soM (oR l) w Finset.univ hx hm) fun _ =>
            .op (.enqueueDma (soQ l) (.remote (Dev.tc d' : Thread nD τ) (loQ l) (.dma (sOS l)) hsc) (.dma (rOS l)) hsrc hdst hsem) k) Q) := by
  subst hw
  unfold oReady
  iintro ⟨#He, ⟨HT, ⟨%a, Ha⟩, Hb⟩, HO⟩ Hk
  iapply (ld d (M := soM) (r := oR l) (hs := fun _ => rfl)) $$ Ha
  iintro Ha
  iapply (st d (M := soM) (r := oR l) (hs := fun _ => rfl)) $$ Ha
  iintro Ha
  iapply (sendO m K d l hd) $$ [HT Ha Hb HO]
  · iframe He HT Ha Hb HO
  iexact Hk

/-- Waiting for the output partial to have left and for the neighbour's to have landed. -/
theorem outRecv (K : Dev nD × Kind → ℕ) (d : Dev nD) (l : Fin 3) {Q : α → sProp 𝕄} (n : ℕ) (h2 : 2 ≤ n) (hn : 6 + 5 * l.val < n)
    {hs₁ : (loQ l).view.WordExact} {hd₁ : (soQ l).view.WordExact} {hs₂ : (soQ l).view.WordExact} {hd₂ : (loQ l).view.WordExact}
    {k : PUnit → Prog (TpuEff nD τ sig (Elt F) Λ₀ .tc) α} :
    iprop(Env m K ∗ TB d (.sO l) (.rO l) ∗ OW d n)
      ⊢ iprop((iprop(oRest m l d ∗ oLand m l d ∗ OW d n) -∗ wpD d (k ⟨⟩) Q)
        -∗ wpD d (.op (.waitDma2 (sOS l) (loQ l) (soQ l) hs₁ hd₁) fun _ => .op (.waitDma2 (rOS l) (soQ l) (loQ l) hs₂ hd₂) k) Q) := by
  iintro ⟨#He, HT, HO⟩ Hk
  iapply (waitS m K d (.sO l) (.rO l) rfl n rfl (NO_s l) h2 (by show 0 < n; omega)) $$ [HT HO]
  · iframe He HT HO
  iintro ⟨HT, Ha, HO⟩
  iapply (waitR m K d (.sO l) (.rO l) rfl n rfl (NO_r l) h2 hn) $$ [HT HO]
  · iframe He HT HO
  unfold pay
  iintro ⟨HT, Hb, HO⟩
  iapply Hk
  unfold oRest
  iframe HT Ha Hb HO

end Cert.Stack

end

end
-- ==== Proof.Text.lean ====
/-
# The body's text, cut where a layer's transfers are under way
-/
module

public import proofs.«01_k».proof.Proof.Chunks

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-- The third layer after its hidden partials are sent. -/
def rest6 (d : Dev nD) (v2 v5 v6 v7 : BitVec 32) : Prog (TpuEff nD τ sig (Elt F) Λ₀ .tc) PUnit := do
  let v830 ← on (k0_part33 (F := F)) v2 v6
  let ⟨v853, v854⟩ ← on (k0_part34 (F := F)) v2 v6
  let ⟨v857, v874, v877⟩ ← on (k0_part35 (F := F)) v2 v6 v830 v853 v854
  let v884 ← on (k0_part36 (F := F)) v2 v6 v857 v874 v877
  let v911 ← on (k0_part37 (F := F)) d v5 v7 v884
  Prog.lift (.waitDma2 (sOS 2) (loQ 2) (soQ 2) (((Memref.isWhole_whole _).wordExact_slice rfl _ wordsbf16_S3x64x1024_S1x64x1024_2_0_0).reshape _ _)
    (((Memref.isWhole_whole _).wordExact_slice rfl _ wordsbf16_S3x64x1024_S1x64x1024_2_0_0).reshape _ _))
  Prog.lift (.waitDma2 (rOS 2) (soQ 2) (loQ 2) (((Memref.isWhole_whole _).wordExact_slice rfl _ wordsbf16_S3x64x1024_S1x64x1024_2_0_0).reshape _ _)
    (((Memref.isWhole_whole _).wordExact_slice rfl _ wordsbf16_S3x64x1024_S1x64x1024_2_0_0).reshape _ _))
  let v944 ← Prog.lift (.load loM (oR 2).toLoadRect (View.loadsAt_vmem h_S1x64x1024))
  let _ ← Prog.lift (.load yM (Rect.unit (s := S64x1024) ![0, 0] S64x1024.size inb_S64x1024_S64x1024_0_0).toLoadRect (View.loadsAt_vmem h_S64x1024))
  Prog.lift (.store yM (Rect.unit (s := S64x1024) ![0, 0] S64x1024.size inb_S64x1024_S64x1024_0_0) (k0_pay1 v911 v944) Finset.univ
    (View.stores_vmem_bits_univ h_S64x1024 rfl) (.inl rfl))
  pure ⟨⟩

/-- From the second layer to the third. -/
def rest5 (d : Dev nD) (v2 v5 v6 v7 : BitVec 32) (v612 : FVec F S64x1024 .f32) : Prog (TpuEff nD τ sig (Elt F) Λ₀ .tc) PUnit := do
  on (k0_part27 (F := F)) v612
  let ⟨v701, v702⟩ ← on (k0_part28 (F := F)) v5 v7
  let v729 ← on (k0_part29 (F := F)) d v2 v6 v701 v702
  let v756 ← on (k0_part30 (F := F)) d v2 v6 v729
  on (k0_part31 (F := F)) d v2 v6 v756
  on (k0_part32 (F := F)) d v2 v6
  rest6 d v2 v5 v6 v7

/-- The second layer after its hidden partials are sent. -/
def rest4 (d : Dev nD) (v2 v5 v6 v7 : BitVec 32) : Prog (TpuEff nD τ sig (Elt F) Λ₀ .tc) PUnit := do
  let v526 ← on (k0_part21 (F := F)) v2 v6
  let ⟨v531, v548⟩ ← on (k0_part22 (F := F)) v2 v6 v526
  let v558 ← on (k0_part23 (F := F)) v2 v6 v531 v548
  let ⟨v585, v593, v594⟩ ← on (k0_part24 (F := F)) v2 v6 v558
  let v612 ← on (k0_part25 (F := F)) v5 v7 v585 v593 v594
  on (k0_part26 (F := F)) d v612
  rest5 d v2 v5 v6 v7 v612

/-- From the first layer to the second. -/
def rest3 (d : Dev nD) (v2 v5 v6 v7 : BitVec 32) (v289 : FVec F S64x1024 .f32) : Prog (TpuEff nD τ sig (Elt F) Λ₀ .tc) PUnit := do
  on (k0_part14 (F := F)) v289
  let v370 ← on (k0_part15 (F := F)) v289
  let v397 ← on (k0_part16 (F := F)) v5 v7 v370
  let ⟨v418, v421, v423, cst_520⟩ ← on (k0_part17 (F := F)) d v2 v6 v397
  let ⟨v446, v449⟩ ← on (k0_part18 (F := F)) d v2 v6 v418 v421 v423 cst_520
  let ⟨v474, v477⟩ ← on (k0_part19 (F := F)) d v2 v6 v446 v449
  on (k0_part20 (F := F)) d v2 v6 v474 v477
  rest4 d v2 v5 v6 v7

/-- The first layer. -/
def rest2 (d : Dev nD) (v2 v5 v6 v7 : BitVec 32) (v66 : FVec F S64x1024 .f32) (v72 : Vec F S1x1024x512 .f32) : Prog (TpuEff nD τ sig (Elt F) Λ₀ .tc) PUnit := do
  on (k0_part4 (F := F)) d v2 v6 v66 v72
  on (k0_part5 (F := F)) d v2 v6 v66
  on (k0_part6 (F := F)) v2 v6 v66
  on (k0_part7 (F := F)) d v2 v6 v66
  on (k0_part8 (F := F)) d v2 v6
  let v208 ← on (k0_part9 (F := F)) v2 v6
  let ⟨v235, c2_i32_305⟩ ← on (k0_part10 (F := F)) v208
  let v262 ← on (k0_part11 (F := F)) v2 v6 v235 c2_i32_305
  let ⟨v289, c2_i32_369⟩ ← on (k0_part12 (F := F)) v2 v6 v262
  on (k0_part13 (F := F)) d v5 v7 c2_i32_369
  rest3 d v2 v5 v6 v7 v289

/-- The whole. -/
def rest1  : Prog (TpuEff nD τ sig (Elt F) Λ₀ .tc) PUnit := do
  let ⟨d0, v2, v5, v6, v7⟩ ← on (k0_part1 (F := F))
  on (k0_part2 (F := F))
  let ⟨v66, v72⟩ ← on (k0_part3 (F := F)) d0 v2 v5 v6 v7
  rest2 d0 v2 v5 v6 v7 v66 v72

set_option maxHeartbeats 4000000 in
/-- The body, cut where a layer's transfers are under way. -/
theorem body_eq : on (cc0_body (F := F)) = rest1 := by
  simp only [on, cc0_body_eq_skeleton]
  unfold cc0_body_skel
  simp only [k0_part38_eq_skeleton]
  unfold k0_part38_skel rest1 rest2 rest3 rest4 rest5 rest6
  simp only [on, Prog.bind_assoc]
  rfl

end Cert.Stack

end

end
-- ==== Proof.Seg1.lean ====
/-
# The start: the weights' transfers, the entry barrier, the first loads
-/
module

public import proofs.«01_k».proof.Proof.Text

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-- A slot of the weights' buffers, free, with its semaphore. -/
def wiFree (p : Fin 2) (c : Fin 4) (d : Dev nD) : sProp 𝕄 :=
  iprop((∃ w, owns (d : Thread nD τ) (wiP p c) fullShare w) ∗ semVal ((d : Thread nD τ), SemLoc.dma (wiSem p c)) 0)
def woFree (p : Fin 2) (d : Dev nD) : sProp 𝕄 :=
  iprop((∃ w, owns (d : Thread nD τ) (woPl p) fullShare w) ∗ semVal ((d : Thread nD τ), SemLoc.dma (woSem p)) 0)
/-- Something for each of the four chunks. -/
abbrev w4 (Φ : Fin 4 → sProp 𝕄) : sProp 𝕄 := iprop(Φ 0 ∗ Φ 1 ∗ Φ 2 ∗ Φ 3)

abbrev xPts (d : Dev nD) : sProp 𝕄 := ((d : Thread nD τ).loc cc0_stg0_0) ↦{fullShare} xstg m d

theorem hz : (![0, 0] : Fin 2 → Nat) = fun _ => 0 := funext fun a => by fin_cases a <;> rfl

def S0 (d : Dev nD) : sProp 𝕄 :=
  iprop(OW d 0 ∗ (dutyTok ER (kcell (tgt d true) .bar) 0 true ∗ landH d) ∗ (dutyTok ER (kcell (tgt d false) .bar) 0 false ∗ landO d)
    ∗ cred (tallyAt (kcell d .bar) () 2) ∗ atPos ER (kcell d .bar) 0 ∅ 0 ∗ xPts m d
    ∗ w4 (fun c => wiFree 0 c d) ∗ w4 (fun c => wiFree 1 c d) ∗ woFree 0 d ∗ woFree 1 d
    ∗ w4 (fun c => wiPts m 0 c d) ∗ w4 (fun c => wiPts m 1 c d) ∗ woPts m 0 d ∗ woPts m 1 d)

def S1 (d : Dev nD) : sProp 𝕄 :=
  iprop(OW d 2 ∗ semVal (kcell d .bar) 0 ∗ landH (yp d) ∗ landO (xp d) ∗ xPts m d
    ∗ (wiHas m 0 0 0 d ∗ wiPts m 0 0 d) ∗ (wiFl m 0 0 1 d ∗ wiFl m 0 0 2 d ∗ wiFl m 0 0 3 d)
    ∗ w4 (fun c => wiFl m 1 1 c d) ∗ woFl m 0 0 d ∗ woFl m 1 1 d)

set_option maxHeartbeats 1000000 in
theorem seg1 (K : Dev nD × Kind → ℕ) (d : Dev nD) (Q : PUnit → sProp 𝕄) :
    iprop(Env m K ∗ S0 m d ∗ (S1 m d -∗ ∀ v2, ∀ v5, ∀ v6, ∀ v7, wpD d (rest2 d v2 v5 v6 v7 (k0_pay2 (xstg m d)) (wiV m 0 d 0)) Q))
      ⊢ wpD d rest1 Q := by
  unfold rest1
  simp only [on, k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  unfold S0 wiFree woFree
  iintro ⟨#He, ⟨HO, ⟨Htb, HlH⟩, ⟨Htb', HlO⟩, Hcb, Hab, Hx, ⟨⟨⟨%a0, Ha0⟩, Hu0⟩, ⟨⟨%a1, Ha1⟩, Hu1⟩, ⟨⟨%a2, Ha2⟩, Hu2⟩, ⟨%a3, Ha3⟩, Hu3⟩,
    ⟨⟨⟨%b0, Hb0⟩, Hv0⟩, ⟨⟨%b1, Hb1⟩, Hv1⟩, ⟨⟨%b2, Hb2⟩, Hv2⟩, ⟨%b3, Hb3⟩, Hv3⟩, ⟨⟨%e0, He0⟩, Hr0⟩, ⟨⟨%e1, He1⟩, Hr1⟩,
    ⟨Hp0, Hp1, Hp2, Hp3⟩, ⟨Hq0, Hq1, Hq2, Hq3⟩, Ho0, Ho1⟩, Hk⟩
  iapply (wiGo m d 0 0 0) $$ [Hp0 Ha0 Hu0]
  · iframe
  iintro Hf0
  iapply (wiGo m d 0 0 1) $$ [Hp1 Ha1 Hu1]
  · iframe
  iintro Hf1
  iapply (wiGo m d 0 0 2) $$ [Hp2 Ha2 Hu2]
  · iframe
  iintro Hf2
  iapply (wiGo m d 0 0 3) $$ [Hp3 Ha3 Hu3]
  · iframe
  iintro Hf3
  iapply (woGo m d 0 0) $$ [Ho0 He0 Hr0]
  · iframe
  iintro Hg0
  iapply (wiGo m d 1 1 0) $$ [Hq0 Hb0 Hv0]
  · iframe
  iintro Hf4
  iapply (wiGo m d 1 1 1) $$ [Hq1 Hb1 Hv1]
  · iframe
  iintro Hf5
  iapply (wiGo m d 1 1 2) $$ [Hq2 Hb2 Hv2]
  · iframe
  iintro Hf6
  iapply (wiGo m d 1 1 3) $$ [Hq3 Hb3 Hv3]
  · iframe
  iintro Hf7
  iapply (woGo m d 1 1) $$ [Ho1 He1 Hr1]
  · iframe
  iintro Hg1
  iapply (sig1 m K d true 0 (dev1_eq d) (by decide)) $$ [HO Htb HlH]
  · simp only [if_true]; iframe He HO Htb HlH
  iintro HO
  iapply (sig1 m K d false 1 (dev2_eq d) (by decide)) $$ [HO Htb' HlO]
  · simp only [Bool.false_eq_true, if_false]; iframe He HO Htb' HlO
  iintro HO
  iapply (waitBar m K d) $$ [HO Hcb Hab]
  · iframe He HO Hcb Hab
  iintro ⟨Hzb, HlH, HlO, HO⟩
  iapply (wp_load 𝒱₀ (d : Thread nD τ) none Set.univ (m := xM) (S := Finset.univ) (Finset.subset_univ _)) $$ Hx
  iintro Hx
  rw [show (xM : Memref sig .tc .vmem S64x1024 .f32).view.readAt (Elt F) (Rect.unit (s := S64x1024) ![0, 0] S64x1024.size inb_S64x1024_S64x1024_0_0).toLoadRect (xstg m d) = xstg m d
    from Memref.readAt_unit_zero (Elt F) cc0_stg0_0 hz _ _]
  iapply (waitWi m K d 0 0 0 2 (le_refl 2)) $$ [Hf0 HO]
  · iframe He Hf0 HO
  iintro ⟨⟨Ha0, Hp0⟩, Hu0, HO⟩
  iapply (ld d (M := wiM) (r := wiR 0 0) (hs := fun _ => rfl)) $$ Ha0
  iintro Ha0
  ihave Hk := Hk $$ [-]
  · unfold S1 wiHas; simp only [w4]; iframe
  iapply Hk

end Cert.Stack

end

end
-- ==== Proof.Seg2.lean ====
/-
# The first layer: its hidden exchange, its output partial on the way
-/
module

public import proofs.«01_k».proof.Proof.Seg1

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-- What the first layer takes: its weights coming, the exchange's slots, the hidden block free, and the third layer's first
    weights to be fetched. -/
def S2 (d : Dev nD) : sProp 𝕄 :=
  iprop(OW d 2 ∗ w4 (fun c => hReady 0 c d) ∗ oReady 0 d ∗ w4 (fun c => iprop(∃ u, owns (d : Thread nD τ) (hP c) fullShare u))
    ∗ (wiHas m 0 0 0 d ∗ wiPts m 0 0 d) ∗ (wiFl m 0 0 1 d ∗ wiFl m 0 0 2 d ∗ wiFl m 0 0 3 d) ∗ woFl m 0 0 d
    ∗ (wiPts m 2 0 d ∗ wiPts m 2 1 d ∗ wiPts m 2 2 d))
/-- What it leaves: its output partial on the way. -/
def S3 (d : Dev nD) : sProp 𝕄 :=
  iprop(OW d 7 ∗ w4 (fun c => hDone m 0 c d) ∗ TB d (.sO 0) (.rO 0) ∗ w4 (fun c => hHas m 0 c d) ∗ w4 (fun c => wiPts m 0 c d)
    ∗ (wiFl m 2 0 0 d ∗ wiFl m 2 0 1 d ∗ wiFl m 2 0 2 d) ∗ wiHas m 0 0 3 d ∗ woHas m 0 0 d ∗ woPts m 0 d)

set_option maxHeartbeats 4000000 in
theorem seg2 (K : Dev nD × Kind → ℕ) (d : Dev nD) (Q : PUnit → sProp 𝕄) (v2 v5 v6 v7 : BitVec 32) :
    iprop(Env m K ∗ S2 m d ∗ (S3 m d -∗ wpD d (rest3 d v2 v5 v6 v7 (oaF m (h0 m) 0 0 d)) Q))
      ⊢ wpD d (rest2 d v2 v5 v6 v7 (k0_pay2 (xstg m d)) (wiV m 0 d 0)) Q := by
  unfold rest2
  simp only [on, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold k0_part4_skel k0_part5_skel k0_part6_skel k0_part7_skel k0_part8_skel k0_part9_skel k0_part10_skel k0_part11_skel k0_part12_skel k0_part13_skel
  simp only [semSignalWord, semWaitWord, Prog.lift, Prog.bind_op, Prog.bind_ret, Prog.pure_eq_ret]
  simp only [pay5_eq, pay7_eq, pay9_eq, pay17_eq, pay18_eq, pay40_eq, pay41_eq, pay42_eq, pay43_eq, pay6_eq, pay8_eq, pay10_eq, pay23_eq, pay27_eq, pay30_eq, pay33_eq, pay51_eq, pay53_eq, pay54_eq, pay13_eq, pay14_eq, pay36_eq, pay37_eq, pay38_eq, pay59_eq, pay39_eq, pay60_eq, pay47_eq, pay50_eq, pay52_eq, pay20_19, pay22_21, pay26_24, pay29_28, pay32_31, pay35_34, pay46_45, pay49_48, pay56_55, pay58_57]
  unfold S2
  iintro ⟨#He, ⟨HO, ⟨HY00, HY01, HY02, HY03⟩, HYO, ⟨Hh0, Hh1, Hh2, Hh3⟩, ⟨Hw0, Hp0⟩, ⟨Hf1, Hf2, Hf3⟩, Hg, Hq0, Hq1, Hq2⟩, Hk⟩
  iapply (chunkSend m K d 0 0 (dev3_eq d) rfl) $$ [HY00 Hh0 HO]
  · iframe He HY00 Hh0 HO
  iintro ⟨HT00, HH00, HO⟩
  iapply (waitWi m K d 0 0 1 3 (by decide)) $$ [Hf1 HO]
  · iframe He Hf1 HO
  iintro ⟨⟨Ha1, Hp1⟩, Hu1, HO⟩
  iapply (ld d (M := wiM) (r := wiR 0 1) (hs := fun _ => rfl)) $$ Ha1
  iintro Ha1
  iapply (chunkSend m K d 0 1 (dev4_eq d) rfl) $$ [HY01 Hh1 HO]
  · iframe He HY01 Hh1 HO
  iintro ⟨HT01, HH01, HO⟩
  iapply (waitWi m K d 0 0 2 4 (by decide)) $$ [Hf2 HO]
  · iframe He Hf2 HO
  iintro ⟨⟨Ha2, Hp2⟩, Hu2, HO⟩
  iapply (ld d (M := wiM) (r := wiR 0 2) (hs := fun _ => rfl)) $$ Ha2
  iintro Ha2
  iapply (chunkSend m K d 0 2 (dev5_eq d) rfl) $$ [HY02 Hh2 HO]
  · iframe He HY02 Hh2 HO
  iintro ⟨HT02, HH02, HO⟩
  iapply (waitWi m K d 0 0 3 5 (by decide)) $$ [Hf3 HO]
  · iframe He Hf3 HO
  iintro ⟨⟨Ha3, Hp3⟩, Hu3, HO⟩
  iapply (ld d (M := wiM) (r := wiR 0 3) (hs := fun _ => rfl)) $$ Ha3
  iintro Ha3
  iapply (chunkSend m K d 0 3 (dev6_eq d) rfl) $$ [HY03 Hh3 HO]
  · iframe He HY03 Hh3 HO
  iintro ⟨HT03, HH03, HO⟩
  iapply (waitWo m K d 0 0 6 (by decide)) $$ [Hg HO]
  · iframe He Hg HO
  iintro ⟨⟨HW, HWp⟩, HWz, HO⟩
  ihave HW : woHas m 0 0 d $$ [HW HWz]
  · unfold woHas; iframe HW HWz
  iapply (chunkRecv m K d 0 0 0 6 (by decide) (by decide)) $$ [HT00 HH00 HW HO]
  · iframe He HT00 HH00 HW HO
  iintro ⟨HD00, HH00, HW, HO⟩
  iapply (chunkRecv m K d 0 0 1 6 (by decide) (by decide)) $$ [HT01 HH01 HW HO]
  · iframe He HT01 HH01 HW HO
  iintro ⟨HD01, HH01, HW, HO⟩
  iapply (chunkRecv m K d 0 0 2 6 (by decide) (by decide)) $$ [HT02 HH02 HW HO]
  · iframe He HT02 HH02 HW HO
  iintro ⟨HD02, HH02, HW, HO⟩
  iapply (chunkRecv m K d 0 0 3 6 (by decide) (by decide)) $$ [HT03 HH03 HW HO]
  · iframe He HT03 HH03 HW HO
  iintro ⟨HD03, HH03, HW, HO⟩
  iapply (outSend m K d 0 (dev7_eq d) rfl) $$ [HYO HO]
  · iframe He HYO HO
  iintro ⟨HTO, HO⟩
  unfold wiHas
  icases Hw0 with ⟨Ha0, Hu0⟩
  iapply (wiGo m d 2 0 0) $$ [Hq0 Ha0 Hu0]
  · iframe Hq0 Ha0 Hu0
  iintro Hf0
  iapply (wiGo m d 2 0 1) $$ [Hq1 Ha1 Hu1]
  · iframe Hq1 Ha1 Hu1
  iintro Hf1
  iapply (wiGo m d 2 0 2) $$ [Hq2 Ha2 Hu2]
  · iframe Hq2 Ha2 Hu2
  iintro Hf2
  ihave Hk := Hk $$ [-]
  · unfold S3 wiHas; simp only [w4]; iframe
  iapply Hk

end Cert.Stack

end

end
-- ==== Proof.Seg3.lean ====
/-
# From the first layer to the second
-/
module

public import proofs.«01_k».proof.Proof.Seg1

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-- What the step from the first layer to the second takes, -/
def S4 (d : Dev nD) : sProp 𝕄 :=
  iprop(OW d 7 ∗ TB d (.sO 0) (.rO 0) ∗ w4 (fun c => hHas m 0 c d) ∗ w4 (fun c => iprop(∃ u, owns (d : Thread nD τ) (aP c) fullShare u))
    ∗ w4 (fun c => hReady 1 c d) ∗ w4 (fun c => wiFl m 1 1 c d) ∗ wiHas m 0 0 3 d ∗ wiPts m 2 3 d ∗ woHas m 0 0 d ∗ woPts m 2 d)
/-- and what it leaves: the second layer's hidden partials on the way. -/
def S5 (d : Dev nD) : sProp 𝕄 :=
  iprop(OW d 11 ∗ oRest m 0 d ∗ oLand m 0 d ∗ w4 (fun c => hHas m 1 c d) ∗ w4 (fun c => iprop(∃ u, owns (d : Thread nD τ) (aP c) fullShare u))
    ∗ w4 (fun c => TB d (.sH 1 c) (.rH 1 c)) ∗ w4 (fun c => wiHas m 1 1 c d) ∗ w4 (fun c => wiPts m 1 c d) ∗ wiFl m 2 0 3 d ∗ woFl m 2 0 d)

set_option maxHeartbeats 4000000 in
theorem seg3 (K : Dev nD × Kind → ℕ) (d : Dev nD) (Q : PUnit → sProp 𝕄) (v2 v5 v6 v7 : BitVec 32) :
    iprop(Env m K ∗ S4 m d ∗ (S5 m d -∗ wpD d (rest4 d v2 v5 v6 v7) Q))
      ⊢ wpD d (rest3 d v2 v5 v6 v7 (oaF m (h0 m) 0 0 d)) Q := by
  unfold rest3
  simp only [on, k0_part14_eq_skeleton, k0_part15_eq_skeleton, k0_part16_eq_skeleton, k0_part17_eq_skeleton, k0_part18_eq_skeleton, k0_part19_eq_skeleton, k0_part20_eq_skeleton]
  unfold k0_part14_skel k0_part15_skel k0_part16_skel k0_part17_skel k0_part18_skel k0_part19_skel k0_part20_skel
  simp only [semSignalWord, semWaitWord, Prog.lift, Prog.bind_op, Prog.bind_ret, Prog.pure_eq_ret]
  simp only [pay5_eq, pay7_eq, pay9_eq, pay17_eq, pay18_eq, pay40_eq, pay41_eq, pay42_eq, pay43_eq, pay6_eq, pay8_eq, pay10_eq, pay23_eq, pay27_eq, pay30_eq, pay33_eq, pay51_eq, pay53_eq, pay54_eq, pay13_eq, pay14_eq, pay36_eq, pay37_eq, pay38_eq, pay59_eq, pay39_eq, pay60_eq, pay47_eq, pay50_eq, pay52_eq, pay20_19, pay22_21, pay26_24, pay29_28, pay32_31, pay35_34, pay46_45, pay49_48, pay56_55, pay58_57]
  unfold S4
  iintro ⟨#He, ⟨HO, HTO, ⟨HH0, HH1, HH2, HH3⟩, ⟨HA0, HA1, HA2, HA3⟩, ⟨HY10, HY11, HY12, HY13⟩, ⟨Hf0, Hf1, Hf2, Hf3⟩, Hw3, Hq3, HW, HWp⟩, Hk⟩
  unfold wiHas woHas
  icases Hw3 with ⟨Ha3, Hu3⟩
  icases HW with ⟨HW, HWz⟩
  iapply (wiGo m d 2 0 3) $$ [Hq3 Ha3 Hu3]
  · iframe Hq3 Ha3 Hu3
  iintro Hg3
  ihave HW := (woIn_owns m 0 0 d) $$ HW
  icases HW with ⟨%w, HW⟩
  iapply (woGo m d 2 0) $$ [HWp HW HWz]
  · iframe HWp HW HWz
  iintro HG
  iapply (chunkAhead m K d 1 1 0 7 (by decide)) $$ [Hf0 HA0 HO]
  · iframe He Hf0 HA0 HO
  iintro ⟨Hw0, Hp0, HA0, HO⟩
  iapply (chunkAhead m K d 1 1 1 7 (by decide)) $$ [Hf1 HA1 HO]
  · iframe He Hf1 HA1 HO
  iintro ⟨Hw1, Hp1, HA1, HO⟩
  iapply (chunkAhead m K d 1 1 2 7 (by decide)) $$ [Hf2 HA2 HO]
  · iframe He Hf2 HA2 HO
  iintro ⟨Hw2, Hp2, HA2, HO⟩
  iapply (chunkAhead m K d 1 1 3 7 (by decide)) $$ [Hf3 HA3 HO]
  · iframe He Hf3 HA3 HO
  iintro ⟨Hw3, Hp3, HA3, HO⟩
  iapply (outRecv m K d 0 7 (by decide) (by decide)) $$ [HTO HO]
  · iframe He HTO HO
  iintro ⟨HR, HL, HO⟩
  iapply (chunkNext m d 0 1 1 0) $$ [HA0 HL Hw0]
  · iframe HA0 HL Hw0
  iintro ⟨HA0, HL, Hw0⟩
  ihave HH0 : iprop(∃ u, owns (d : Thread nD τ) (hP 0) fullShare u) $$ [HH0]
  · iexists _; iexact HH0
  iapply (chunkSend m K d 1 0 (dev8_eq d) rfl) $$ [HY10 HH0 HO]
  · iframe He HY10 HH0 HO
  iintro ⟨HT10, HH10, HO⟩
  iapply (chunkNext m d 0 1 1 1) $$ [HA1 HL Hw1]
  · iframe HA1 HL Hw1
  iintro ⟨HA1, HL, Hw1⟩
  ihave HH1 : iprop(∃ u, owns (d : Thread nD τ) (hP 1) fullShare u) $$ [HH1]
  · iexists _; iexact HH1
  iapply (chunkSend m K d 1 1 (dev9_eq d) rfl) $$ [HY11 HH1 HO]
  · iframe He HY11 HH1 HO
  iintro ⟨HT11, HH11, HO⟩
  iapply (chunkNext m d 0 1 1 2) $$ [HA2 HL Hw2]
  · iframe HA2 HL Hw2
  iintro ⟨HA2, HL, Hw2⟩
  ihave HH2 : iprop(∃ u, owns (d : Thread nD τ) (hP 2) fullShare u) $$ [HH2]
  · iexists _; iexact HH2
  iapply (chunkSend m K d 1 2 (dev10_eq d) rfl) $$ [HY12 HH2 HO]
  · iframe He HY12 HH2 HO
  iintro ⟨HT12, HH12, HO⟩
  iapply (chunkNext m d 0 1 1 3) $$ [HA3 HL Hw3]
  · iframe HA3 HL Hw3
  iintro ⟨HA3, HL, Hw3⟩
  ihave HH3 : iprop(∃ u, owns (d : Thread nD τ) (hP 3) fullShare u) $$ [HH3]
  · iexists _; iexact HH3
  iapply (chunkSend m K d 1 3 (dev11_eq d) rfl) $$ [HY13 HH3 HO]
  · iframe He HY13 HH3 HO
  iintro ⟨HT13, HH13, HO⟩
  ihave HA0 : iprop(∃ u, owns (d : Thread nD τ) (aP 0) fullShare u) $$ [HA0]
  · iexists _; iexact HA0
  ihave HA1 : iprop(∃ u, owns (d : Thread nD τ) (aP 1) fullShare u) $$ [HA1]
  · iexists _; iexact HA1
  ihave HA2 : iprop(∃ u, owns (d : Thread nD τ) (aP 2) fullShare u) $$ [HA2]
  · iexists _; iexact HA2
  ihave HA3 : iprop(∃ u, owns (d : Thread nD τ) (aP 3) fullShare u) $$ [HA3]
  · iexists _; iexact HA3
  ihave Hk := Hk $$ [-]
  · unfold S5 wiHas; simp only [w4]; iframe
  iapply Hk

end Cert.Stack

end

end
-- ==== Proof.Seg4.lean ====
/-
# The second layer: the hidden exchange over, its output partial on the way
-/
module

public import proofs.«01_k».proof.Proof.Seg1

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-- What the rest of the second layer takes, -/
def S6 (d : Dev nD) : sProp 𝕄 :=
  iprop(OW d 11 ∗ w4 (fun c => TB d (.sH 1 c) (.rH 1 c)) ∗ w4 (fun c => hHas m 1 c d) ∗ woFl m 1 1 d ∗ oReady 1 d
    ∗ ((∃ u, owns (d : Thread nD τ) (aP 0) fullShare u) ∗ (∃ u, owns (d : Thread nD τ) (aP 1) fullShare u)) ∗ wiFl m 2 0 0 d ∗ wiFl m 2 0 1 d)
/-- and what it leaves: its output partial on the way, half of it multiplied into the next layer's weights. -/
def S7 (d : Dev nD) : sProp 𝕄 :=
  iprop(OW d 12 ∗ w4 (fun c => hDone m 1 c d) ∗ w4 (fun c => hHas m 1 c d) ∗ woHas m 1 1 d ∗ woPts m 1 d ∗ TB d (.sO 1) (.rO 1)
    ∗ (owns (d : Thread nD τ) (aP 0) fullShare (k0_pay16 (oaF m (h1 m) 1 1 d) (wiV m 2 d 0))
      ∗ owns (d : Thread nD τ) (aP 1) fullShare (k0_pay16 (oaF m (h1 m) 1 1 d) (wiV m 2 d 1)))
    ∗ (wiHas m 2 0 0 d ∗ wiPts m 2 0 d) ∗ wiHas m 2 0 1 d ∗ wiPts m 2 1 d)

set_option maxHeartbeats 4000000 in
theorem seg4 (K : Dev nD × Kind → ℕ) (d : Dev nD) (Q : PUnit → sProp 𝕄) (v2 v5 v6 v7 : BitVec 32) :
    iprop(Env m K ∗ S6 m d ∗ (S7 m d -∗ wpD d (rest5 d v2 v5 v6 v7 (oaF m (h1 m) 1 1 d)) Q))
      ⊢ wpD d (rest4 d v2 v5 v6 v7) Q := by
  unfold rest4
  simp only [on, k0_part21_eq_skeleton, k0_part22_eq_skeleton, k0_part23_eq_skeleton, k0_part24_eq_skeleton, k0_part25_eq_skeleton, k0_part26_eq_skeleton]
  unfold k0_part21_skel k0_part22_skel k0_part23_skel k0_part24_skel k0_part25_skel k0_part26_skel
  simp only [semSignalWord, semWaitWord, Prog.lift, Prog.bind_op, Prog.bind_ret, Prog.pure_eq_ret]
  simp only [pay5_eq, pay7_eq, pay9_eq, pay17_eq, pay18_eq, pay40_eq, pay41_eq, pay42_eq, pay43_eq, pay6_eq, pay8_eq, pay10_eq, pay23_eq, pay27_eq, pay30_eq, pay33_eq, pay51_eq, pay53_eq, pay54_eq, pay13_eq, pay14_eq, pay36_eq, pay37_eq, pay38_eq, pay59_eq, pay39_eq, pay60_eq, pay47_eq, pay50_eq, pay52_eq, pay20_19, pay22_21, pay26_24, pay29_28, pay32_31, pay35_34, pay46_45, pay49_48, pay56_55, pay58_57]
  unfold S6
  iintro ⟨#He, ⟨HO, ⟨HT10, HT11, HT12, HT13⟩, ⟨HH10, HH11, HH12, HH13⟩, Hg, HYO, ⟨HA0, HA1⟩, Hf0, Hf1⟩, Hk⟩
  iapply (waitWo m K d 1 1 11 (by decide)) $$ [Hg HO]
  · iframe He Hg HO
  iintro ⟨⟨HW, HWp⟩, HWz, HO⟩
  ihave HW : woHas m 1 1 d $$ [HW HWz]
  · unfold woHas; iframe HW HWz
  iapply (chunkRecv m K d 1 1 0 11 (by decide) (by decide)) $$ [HT10 HH10 HW HO]
  · iframe He HT10 HH10 HW HO
  iintro ⟨HD10, HH10, HW, HO⟩
  iapply (chunkRecv m K d 1 1 1 11 (by decide) (by decide)) $$ [HT11 HH11 HW HO]
  · iframe He HT11 HH11 HW HO
  iintro ⟨HD11, HH11, HW, HO⟩
  iapply (chunkRecv m K d 1 1 2 11 (by decide) (by decide)) $$ [HT12 HH12 HW HO]
  · iframe He HT12 HH12 HW HO
  iintro ⟨HD12, HH12, HW, HO⟩
  iapply (chunkRecv m K d 1 1 3 11 (by decide) (by decide)) $$ [HT13 HH13 HW HO]
  · iframe He HT13 HH13 HW HO
  iintro ⟨HD13, HH13, HW, HO⟩
  iapply (outSend m K d 1 (dev12_eq d) rfl) $$ [HYO HO]
  · iframe He HYO HO
  iintro ⟨HTO, HO⟩
  iapply (chunkAhead m K d 2 0 0 12 (by decide)) $$ [Hf0 HA0 HO]
  · iframe He Hf0 HA0 HO
  iintro ⟨Hw0, Hp0, HA0, HO⟩
  iapply (chunkAhead m K d 2 0 1 12 (by decide)) $$ [Hf1 HA1 HO]
  · iframe He Hf1 HA1 HO
  iintro ⟨Hw1, Hp1, HA1, HO⟩
  ihave Hk := Hk $$ [-]
  · unfold S7; simp only [w4]; iframe
    isplitl [HA0]
    · iexact HA0
    · iexact HA1
  iapply Hk

end Cert.Stack

end

end
-- ==== Proof.Seg5.lean ====
/-
# From the second layer to the third
-/
module

public import proofs.«01_k».proof.Proof.Seg1

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-- What the step from the second layer to the third takes, -/
def S8 (d : Dev nD) : sProp 𝕄 :=
  iprop(OW d 12 ∗ TB d (.sO 1) (.rO 1) ∗ w4 (fun c => hHas m 1 c d)
    ∗ (owns (d : Thread nD τ) (aP 0) fullShare (k0_pay16 (oaF m (h1 m) 1 1 d) (wiV m 2 d 0))
      ∗ owns (d : Thread nD τ) (aP 1) fullShare (k0_pay16 (oaF m (h1 m) 1 1 d) (wiV m 2 d 1)))
    ∗ ((∃ u, owns (d : Thread nD τ) (aP 2) fullShare u) ∗ (∃ u, owns (d : Thread nD τ) (aP 3) fullShare u))
    ∗ w4 (fun c => hReady 2 c d) ∗ (wiHas m 2 0 0 d ∗ wiHas m 2 0 1 d) ∗ (wiFl m 2 0 2 d ∗ wiFl m 2 0 3 d) ∗ woFl m 2 0 d)
/-- and what it leaves: the third layer's hidden partials on the way. -/
def S9 (d : Dev nD) : sProp 𝕄 :=
  iprop(OW d 16 ∗ oRest m 1 d ∗ oLand m 1 d ∗ w4 (fun c => hHas m 2 c d) ∗ w4 (fun c => iprop(∃ u, owns (d : Thread nD τ) (aP c) fullShare u))
    ∗ w4 (fun c => TB d (.sH 2 c) (.rH 2 c)) ∗ w4 (fun c => wiHas m 2 0 c d) ∗ (wiPts m 2 2 d ∗ wiPts m 2 3 d) ∗ woHas m 2 0 d ∗ woPts m 2 d)

set_option maxHeartbeats 4000000 in
theorem seg5 (K : Dev nD × Kind → ℕ) (d : Dev nD) (Q : PUnit → sProp 𝕄) (v2 v5 v6 v7 : BitVec 32) :
    iprop(Env m K ∗ S8 m d ∗ (S9 m d -∗ wpD d (rest6 d v2 v5 v6 v7) Q))
      ⊢ wpD d (rest5 d v2 v5 v6 v7 (oaF m (h1 m) 1 1 d)) Q := by
  unfold rest5
  simp only [on, k0_part27_eq_skeleton, k0_part28_eq_skeleton, k0_part29_eq_skeleton, k0_part30_eq_skeleton, k0_part31_eq_skeleton, k0_part32_eq_skeleton]
  unfold k0_part27_skel k0_part28_skel k0_part29_skel k0_part30_skel k0_part31_skel k0_part32_skel
  simp only [semSignalWord, semWaitWord, Prog.lift, Prog.bind_op, Prog.bind_ret, Prog.pure_eq_ret]
  simp only [pay5_eq, pay7_eq, pay9_eq, pay17_eq, pay18_eq, pay40_eq, pay41_eq, pay42_eq, pay43_eq, pay6_eq, pay8_eq, pay10_eq, pay23_eq, pay27_eq, pay30_eq, pay33_eq, pay51_eq, pay53_eq, pay54_eq, pay13_eq, pay14_eq, pay36_eq, pay37_eq, pay38_eq, pay59_eq, pay39_eq, pay60_eq, pay47_eq, pay50_eq, pay52_eq, pay20_19, pay22_21, pay26_24, pay29_28, pay32_31, pay35_34, pay46_45, pay49_48, pay56_55, pay58_57]
  unfold S8
  iintro ⟨#He, ⟨HO, HTO, ⟨HH0, HH1, HH2, HH3⟩, ⟨HA0, HA1⟩, ⟨HA2, HA3⟩, ⟨HY20, HY21, HY22, HY23⟩, ⟨Hw0, Hw1⟩, ⟨Hf2, Hf3⟩, HG⟩, Hk⟩
  iapply (chunkAhead m K d 2 0 2 12 (by decide)) $$ [Hf2 HA2 HO]
  · iframe He Hf2 HA2 HO
  iintro ⟨Hw2, Hp2, HA2, HO⟩
  iapply (chunkAhead m K d 2 0 3 12 (by decide)) $$ [Hf3 HA3 HO]
  · iframe He Hf3 HA3 HO
  iintro ⟨Hw3, Hp3, HA3, HO⟩
  iapply (outRecv m K d 1 12 (by decide) (by decide)) $$ [HTO HO]
  · iframe He HTO HO
  iintro ⟨HR, HL, HO⟩
  iapply (chunkNext m d 1 2 0 0) $$ [HA0 HL Hw0]
  · iframe HA0 HL Hw0
  iintro ⟨HA0, HL, Hw0⟩
  ihave HH0 : iprop(∃ u, owns (d : Thread nD τ) (hP 0) fullShare u) $$ [HH0]
  · iexists _; iexact HH0
  iapply (chunkSend m K d 2 0 (dev13_eq d) rfl) $$ [HY20 HH0 HO]
  · iframe He HY20 HH0 HO
  iintro ⟨HT20, HH20, HO⟩
  iapply (chunkNext m d 1 2 0 1) $$ [HA1 HL Hw1]
  · iframe HA1 HL Hw1
  iintro ⟨HA1, HL, Hw1⟩
  ihave HH1 : iprop(∃ u, owns (d : Thread nD τ) (hP 1) fullShare u) $$ [HH1]
  · iexists _; iexact HH1
  iapply (chunkSend m K d 2 1 (dev14_eq d) rfl) $$ [HY21 HH1 HO]
  · iframe He HY21 HH1 HO
  iintro ⟨HT21, HH21, HO⟩
  iapply (chunkNext m d 1 2 0 2) $$ [HA2 HL Hw2]
  · iframe HA2 HL Hw2
  iintro ⟨HA2, HL, Hw2⟩
  ihave HH2 : iprop(∃ u, owns (d : Thread nD τ) (hP 2) fullShare u) $$ [HH2]
  · iexists _; iexact HH2
  iapply (chunkSend m K d 2 2 (dev15_eq d) rfl) $$ [HY22 HH2 HO]
  · iframe He HY22 HH2 HO
  iintro ⟨HT22, HH22, HO⟩
  iapply (chunkNext m d 1 2 0 3) $$ [HA3 HL Hw3]
  · iframe HA3 HL Hw3
  iintro ⟨HA3, HL, Hw3⟩
  ihave HH3 : iprop(∃ u, owns (d : Thread nD τ) (hP 3) fullShare u) $$ [HH3]
  · iexists _; iexact HH3
  iapply (chunkSend m K d 2 3 (dev16_eq d) rfl) $$ [HY23 HH3 HO]
  · iframe He HY23 HH3 HO
  iintro ⟨HT23, HH23, HO⟩
  iapply (waitWo m K d 2 0 16 (by decide)) $$ [HG HO]
  · iframe He HG HO
  iintro ⟨⟨HW, HWp⟩, HWz, HO⟩
  ihave HW : woHas m 2 0 d $$ [HW HWz]
  · unfold woHas; iframe HW HWz
  ihave HA0 : iprop(∃ u, owns (d : Thread nD τ) (aP 0) fullShare u) $$ [HA0]
  · iexists _; iexact HA0
  ihave HA1 : iprop(∃ u, owns (d : Thread nD τ) (aP 1) fullShare u) $$ [HA1]
  · iexists _; iexact HA1
  ihave HA2 : iprop(∃ u, owns (d : Thread nD τ) (aP 2) fullShare u) $$ [HA2]
  · iexists _; iexact HA2
  ihave HA3 : iprop(∃ u, owns (d : Thread nD τ) (aP 3) fullShare u) $$ [HA3]
  · iexists _; iexact HA3
  ihave Hk := Hk $$ [-]
  · unfold S9; simp only [w4]; iframe
  iapply Hk

end Cert.Stack

end

end
-- ==== Proof.Seg6.lean ====
/-
# The third layer and the result
-/
module

public import proofs.«01_k».proof.Proof.Seg1

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-- What the end takes, -/
def S10 (d : Dev nD) : sProp 𝕄 :=
  iprop(OW d 16 ∗ w4 (fun c => TB d (.sH 2 c) (.rH 2 c)) ∗ w4 (fun c => hHas m 2 c d) ∗ woHas m 2 0 d ∗ oReady 2 d
    ∗ ∃ f, (d : Thread nD τ).loc cc0_stg1_0 ↦{fullShare} f)
/-- and what it leaves: the result. -/
def S11 (d : Dev nD) : sProp 𝕄 :=
  iprop(OW d 17 ∗ w4 (fun c => hDone m 2 c d) ∗ w4 (fun c => hHas m 2 c d) ∗ woHas m 2 0 d ∗ oRest m 2 d ∗ oLand m 2 d
    ∗ ((d : Thread nD τ).loc cc0_stg1_0 ↦{fullShare} (resV m d : (cc0_stg1_0 : Ref sig .tc).ty.Contents (Elt F))))

set_option maxHeartbeats 4000000 in
theorem seg6 (K : Dev nD × Kind → ℕ) (d : Dev nD) (Q : PUnit → sProp 𝕄) (v2 v5 v6 v7 : BitVec 32) :
    iprop(Env m K ∗ S10 m d ∗ (S11 m d -∗ Q ⟨⟩))
      ⊢ wpD d (rest6 d v2 v5 v6 v7) Q := by
  unfold rest6
  simp only [on, k0_part33_eq_skeleton, k0_part34_eq_skeleton, k0_part35_eq_skeleton, k0_part36_eq_skeleton, k0_part37_eq_skeleton]
  unfold k0_part33_skel k0_part34_skel k0_part35_skel k0_part36_skel k0_part37_skel
  simp only [semSignalWord, semWaitWord, Prog.lift, Prog.bind_op, Prog.bind_ret, Prog.pure_eq_ret]
  simp only [pay5_eq, pay7_eq, pay9_eq, pay17_eq, pay18_eq, pay40_eq, pay41_eq, pay42_eq, pay43_eq, pay6_eq, pay8_eq, pay10_eq, pay23_eq, pay27_eq, pay30_eq, pay33_eq, pay51_eq, pay53_eq, pay54_eq, pay13_eq, pay14_eq, pay36_eq, pay37_eq, pay38_eq, pay59_eq, pay39_eq, pay60_eq, pay47_eq, pay50_eq, pay52_eq, pay20_19, pay22_21, pay26_24, pay29_28, pay32_31, pay35_34, pay46_45, pay49_48, pay56_55, pay58_57]
  unfold S10
  iintro ⟨#He, ⟨HO, ⟨HT20, HT21, HT22, HT23⟩, ⟨HH20, HH21, HH22, HH23⟩, HW, HYO, ⟨%f, Hy⟩⟩, Hk⟩
  iapply (chunkRecv m K d 2 0 0 16 (by decide) (by decide)) $$ [HT20 HH20 HW HO]
  · iframe He HT20 HH20 HW HO
  iintro ⟨HD20, HH20, HW, HO⟩
  iapply (chunkRecv m K d 2 0 1 16 (by decide) (by decide)) $$ [HT21 HH21 HW HO]
  · iframe He HT21 HH21 HW HO
  iintro ⟨HD21, HH21, HW, HO⟩
  iapply (chunkRecv m K d 2 0 2 16 (by decide) (by decide)) $$ [HT22 HH22 HW HO]
  · iframe He HT22 HH22 HW HO
  iintro ⟨HD22, HH22, HW, HO⟩
  iapply (chunkRecv m K d 2 0 3 16 (by decide) (by decide)) $$ [HT23 HH23 HW HO]
  · iframe He HT23 HH23 HW HO
  iintro ⟨HD23, HH23, HW, HO⟩
  iapply (outSend m K d 2 (dev17_eq d) rfl) $$ [HYO HO]
  · iframe He HYO HO
  iintro ⟨HTO, HO⟩
  iapply (outRecv m K d 2 17 (by decide) (by decide)) $$ [HTO HO]
  · iframe He HTO HO
  iintro ⟨HR, HL, HO⟩
  iapply (ld d (M := loM) (r := oR 2) (hs := fun _ => rfl)) $$ HL
  iintro HL
  iapply (wp_load 𝒱₀ (d : Thread nD τ) none Set.univ (m := yM) (S := Finset.univ) (Finset.subset_univ _)) $$ Hy
  iintro Hy
  iapply (wp_store 𝒱₀ (d : Thread nD τ) none Set.univ (m := yM) (r := Rect.unit (s := S64x1024) ![0, 0] S64x1024.size inb_S64x1024_S64x1024_0_0)
    (w := k0_pay1 (oaF m (h2 m) 2 0 d) (soV m 2 (xp d))) (Mk := Finset.univ) (S := Finset.univ) (f := f) (Finset.subset_univ _)) $$ Hy
  iintro Hy
  rw [show (yM.access (Rect.unit (s := S64x1024) ![0, 0] S64x1024.size inb_S64x1024_S64x1024_0_0)).write (Elt F) f
      (k0_pay1 (oaF m (h2 m) 2 0 d) (soV m 2 (xp d))) Finset.univ = resV m d
    from Memref.write_access_unit_zero_univ (Elt F) cc0_stg1_0 hz _ f _]
  rw [wp_ret]; imodintro
  ihave Hk := Hk $$ [-]
  · unfold S11; simp only [w4]; iframe
  iapply Hk

end Cert.Stack

end

end
-- ==== Proof.Body.lean ====
/-
# The body of the kernel, from its pieces to its pieces
-/
module

public import proofs.«01_k».proof.Proof.Seg2
public import proofs.«01_k».proof.Proof.Seg3
public import proofs.«01_k».proof.Proof.Seg4
public import proofs.«01_k».proof.Proof.Seg5
public import proofs.«01_k».proof.Proof.Seg6

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-! ## Families of pieces, and their members -/

theorem bs4 (Φ : Fin 4 → sProp 𝕄) : bigSep (Finset.univ : Finset (Fin 4)) Φ = w4 Φ := by
  rw [bigSep_univ_eq_bigSepL [0, 1, 2, 3] (by decide) (by decide)]; rfl
theorem bs3 (Φ : Fin 3 → sProp 𝕄) : bigSep (Finset.univ : Finset (Fin 3)) Φ = iprop(Φ 0 ∗ Φ 1 ∗ Φ 2) := by
  rw [bigSep_univ_eq_bigSepL [0, 1, 2] (by decide) (by decide)]; rfl
theorem bs2 (Φ : Fin 2 → sProp 𝕄) : bigSep (Finset.univ : Finset (Fin 2)) Φ = iprop(Φ 0 ∗ Φ 1) := by
  rw [bigSep_univ_eq_bigSepL [0, 1] (by decide) (by decide)]; rfl
theorem bs34 (Φ : Fin 3 × Fin 4 → sProp 𝕄) :
    bigSep (Finset.univ : Finset (Fin 3 × Fin 4)) Φ = iprop(w4 (fun c => Φ (0, c)) ∗ w4 (fun c => Φ (1, c)) ∗ w4 (fun c => Φ (2, c))) := by
  rw [bigSep_univ_prod, bs3, bs4, bs4, bs4]
theorem bs24 (Φ : Fin 2 × Fin 4 → sProp 𝕄) :
    bigSep (Finset.univ : Finset (Fin 2 × Fin 4)) Φ = iprop(w4 (fun c => Φ (0, c)) ∗ w4 (fun c => Φ (1, c))) := by
  rw [bigSep_univ_prod, bs2, bs4, bs4]

/-- A device's scratch buffers by their pieces, whatever they hold, and its weights. -/
def shAny (d : Dev nD) : sProp 𝕄 :=
  bigSep (Finset.univ : Finset (Fin 3 × Fin 4)) fun p => iprop(∃ w, owns (d : Thread nD τ) (shP p.1 p.2) fullShare w)
def soAny (d : Dev nD) : sProp 𝕄 :=
  bigSep (Finset.univ : Finset (Fin 3)) fun l => iprop(∃ w, owns (d : Thread nD τ) (soP l) fullShare w)
def hAny (d : Dev nD) : sProp 𝕄 := bigSep (Finset.univ : Finset (Fin 4)) fun c => iprop(∃ w, owns (d : Thread nD τ) (hP c) fullShare w)
def aAny (d : Dev nD) : sProp 𝕄 := bigSep (Finset.univ : Finset (Fin 4)) fun c => iprop(∃ w, owns (d : Thread nD τ) (aP c) fullShare w)
def wiAny (d : Dev nD) : sProp 𝕄 := bigSep (Finset.univ : Finset (Fin 2 × Fin 4)) fun p => wiFree p.1 p.2 d
def woAny (d : Dev nD) : sProp 𝕄 := bigSep (Finset.univ : Finset (Fin 2)) fun p => woFree p d
def wiAll (d : Dev nD) : sProp 𝕄 := bigSep (Finset.univ : Finset (Fin 3 × Fin 4)) fun p => wiPts m p.1 p.2 d
def woAll (d : Dev nD) : sProp 𝕄 := bigSep (Finset.univ : Finset (Fin 3)) fun l => woPts m l d
def Pieces (d : Dev nD) : sProp 𝕄 :=
  iprop(shAny d ∗ landH d ∗ soAny d ∗ landO d ∗ hAny d ∗ aAny d ∗ wiAny d ∗ woAny d ∗ wiAll m d ∗ woAll m d)

/-- The transfers' duties, positions and credits of device `d`. -/
def hTok (d : Dev nD) : sProp 𝕄 := bigSep (Finset.univ : Finset (Fin 3 × Fin 4)) fun p => TA d true (.sH p.1 p.2) (.rH p.1 p.2)
def oTok (d : Dev nD) : sProp 𝕄 := bigSep (Finset.univ : Finset (Fin 3)) fun l => TA d false (.sO l) (.rO l)
/-- Their semaphores after the run. -/
def hEnd (d : Dev nD) : sProp 𝕄 := bigSep (Finset.univ : Finset (Fin 3 × Fin 4)) fun p => TD d (.sH p.1 p.2) (.rH p.1 p.2)
def oEnd (d : Dev nD) : sProp 𝕄 := bigSep (Finset.univ : Finset (Fin 3)) fun l => TD d (.sO l) (.rO l)

theorem hReady_all (d : Dev nD) :
    iprop(hTok d ∗ shAny d ∗ landH (yp d)) ⊢ bigSep (Finset.univ : Finset (Fin 3 × Fin 4)) fun p => hReady (F := F) p.1 p.2 d := by
  unfold hTok shAny landH
  rw [← bigSep_sep', ← bigSep_sep']
  refine bigSep_mono fun p _ => ?_
  unfold hReady
  exact BI.Entails.refl _
theorem oReady_all (d : Dev nD) :
    iprop(oTok d ∗ soAny d ∗ landO (xp d)) ⊢ bigSep (Finset.univ : Finset (Fin 3)) fun l => oReady (F := F) l d := by
  unfold oTok soAny landO
  rw [← bigSep_sep', ← bigSep_sep']
  refine bigSep_mono fun p _ => ?_
  unfold oReady
  exact BI.Entails.refl _

theorem some_owns {sp : Space} {s : Shape} {e : EltTy} (c : Thread nD τ) (M : Memref sig c.2.kind sp s e) (w : s.Idx → Elt F e) :
    (owns c M fullShare w : sProp 𝕄) ⊢ iprop(∃ w, owns c M fullShare w) := by
  iintro H; iexists w; iexact H

theorem hDone_all (d : Dev nD) :
    (bigSep (Finset.univ : Finset (Fin 3 × Fin 4)) fun p => hDone m p.1 p.2 d) ⊢ iprop(hEnd d ∗ shAny d ∗ landH d) := by
  unfold hEnd shAny landH
  rw [← bigSep_sep', ← bigSep_sep']
  exact bigSep_mono fun p _ => sep_mono_right (sep_mono (some_owns _ _ _) (some_owns _ _ _))
theorem oDone_all (d : Dev nD) :
    (bigSep (Finset.univ : Finset (Fin 3)) fun l => iprop(oRest m l d ∗ oLand m l d)) ⊢ iprop(oEnd d ∗ soAny d ∗ landO d) := by
  unfold oEnd soAny landO
  rw [← bigSep_sep', ← bigSep_sep']
  refine bigSep_mono fun l _ => ?_
  unfold oRest
  exact Entails.trans sep_assoc.1 (sep_mono_right (sep_mono (some_owns _ _ _) (some_owns _ _ _)))
theorem wiHas_free (l : Fin 3) (p : Fin 2) (c : Fin 4) (d : Dev nD) : wiHas m l p c d ⊢ wiFree p c d := sep_mono_left (some_owns _ _ _)
theorem woHas_free (l : Fin 3) (p : Fin 2) (d : Dev nD) : woHas m l p d ⊢ woFree p d := sep_mono_left (woIn_owns m l p d)

/-! ## The whole body -/

/-- What the body takes, -/
def SB (d : Dev nD) : sProp 𝕄 :=
  iprop(OW d 0 ∗ (dutyTok ER (kcell (tgt d true) .bar) 0 true ∗ dutyTok ER (kcell (tgt d false) .bar) 0 false
      ∗ cred (tallyAt (kcell d .bar) () 2) ∗ atPos ER (kcell d .bar) 0 ∅ 0)
    ∗ hTok d ∗ oTok d ∗ xPts m d ∗ (∃ f, (d : Thread nD τ).loc cc0_stg1_0 ↦{fullShare} f) ∗ Pieces m d)
/-- and what it leaves. -/
def SE (d : Dev nD) : sProp 𝕄 :=
  iprop(OW d 17 ∗ semVal (kcell d .bar) 0 ∗ hEnd d ∗ oEnd d ∗ xPts m d
    ∗ ((d : Thread nD τ).loc cc0_stg1_0 ↦{fullShare} (resV m d : (cc0_stg1_0 : Ref sig .tc).ty.Contents (Elt F))) ∗ Pieces m d)

set_option maxHeartbeats 4000000 in
theorem run_body (K : Dev nD × Kind → ℕ) (d : Dev nD) (Q : PUnit → sProp 𝕄) :
    iprop(Env m K ∗ SB m d ∗ (SE m d -∗ Q ⟨⟩)) ⊢ wpD d (on (cc0_body (F := F))) Q := by
  rw [body_eq]
  unfold SB Pieces
  iintro ⟨#He, ⟨HO, ⟨Htb, Htb', Hcb, Hab⟩, HhT, HoT, Hx, Hy, Hsh, Hlh, Hso, Hlo, Hh, Ha, Hwi, Hwo, Hwia, Hwoa⟩, Hk⟩
  unfold wiAny woAny wiAll woAll hAny aAny
  simp only [bs24, bs2, bs34, bs3, bs4, w4]
  icases Hwi with ⟨Hwi0, Hwi1⟩
  icases Hwo with ⟨Hwo0, Hwo1⟩
  icases Hwia with ⟨Hp0, Hp1, ⟨Hp20, Hp21, Hp22, Hp23⟩⟩
  icases Hwoa with ⟨Hq0, Hq1, Hq2⟩
  icases Ha with ⟨Ha0, Ha1, Ha2, Ha3⟩
  iapply (seg1 m K d Q) $$ [-]
  isplitr
  · iexact He
  isplitl [HO Htb Htb' Hcb Hab Hx Hlh Hlo Hwi0 Hwi1 Hwo0 Hwo1 Hp0 Hp1 Hq0 Hq1]
  · unfold S0; simp only [w4]
    iframe HO Htb Htb' Hcb Hab Hx Hlh Hlo Hwi0 Hwi1 Hwo0 Hwo1 Hp0 Hp1 Hq0 Hq1
  unfold S1; simp only [w4]
  iintro ⟨HO, Hzb, HlH, HlO, Hx, Hw0, Hf0, Hf1, Hg0, Hg1⟩ %v2 %v5 %v6 %v7
  ihave HY := (hReady_all d) $$ [HhT Hsh HlH]
  · iframe HhT Hsh HlH
  ihave HYO := (oReady_all d) $$ [HoT Hso HlO]
  · iframe HoT Hso HlO
  simp only [bs34, bs3, w4]
  icases HY with ⟨HY0, HY1, HY2⟩
  icases HYO with ⟨HYO0, HYO1, HYO2⟩
  iapply (seg2 m K d Q v2 v5 v6 v7) $$ [-]
  isplitr
  · iexact He
  isplitl [HO HY0 HYO0 Hh Hw0 Hf0 Hg0 Hp20 Hp21 Hp22]
  · unfold S2; simp only [w4]
    iframe HO HY0 HYO0 Hh Hw0 Hf0 Hg0 Hp20 Hp21 Hp22
  unfold S3; simp only [w4]
  iintro ⟨HO, HD0, HTO, HH, Hwp0, ⟨Hf20, Hf21, Hf22⟩, Hw03, HW, HWp⟩
  iapply (seg3 m K d Q v2 v5 v6 v7) $$ [-]
  isplitr
  · iexact He
  isplitl [HO HTO HH Ha0 Ha1 Ha2 Ha3 HY1 Hf1 Hw03 Hp23 HW Hq2]
  · unfold S4; simp only [w4]
    iframe HO HTO HH Ha0 Ha1 Ha2 Ha3 HY1 Hf1 Hw03 Hp23 HW Hq2
  unfold S5; simp only [w4]
  iintro ⟨HO, HR0, HL0, HH, ⟨Ha0, Ha1, Ha2, Ha3⟩, HT1, Hw1, Hwp1, Hf23, HG⟩
  iapply (seg4 m K d Q v2 v5 v6 v7) $$ [-]
  isplitr
  · iexact He
  isplitl [HO HT1 HH Hg1 HYO1 Ha0 Ha1 Hf20 Hf21]
  · unfold S6; simp only [w4]
    iframe HO HT1 HH Hg1 HYO1 Ha0 Ha1 Hf20 Hf21
  unfold S7; simp only [w4]
  iintro ⟨HO, HD1, HH, HW1, HWp1, HTO, ⟨Ha0, Ha1⟩, ⟨Hw20, Hp20⟩, Hw21, Hp21⟩
  iapply (seg5 m K d Q v2 v5 v6 v7) $$ [-]
  isplitr
  · iexact He
  isplitl [HO HTO HH Ha0 Ha1 Ha2 Ha3 HY2 Hw20 Hw21 Hf22 Hf23 HG]
  · unfold S8; simp only [w4]
    iframe HO HTO HH Ha0 Ha1 Ha2 Ha3 HY2 Hw20 Hw21 Hf22 Hf23 HG
  unfold S9; simp only [w4]
  iintro ⟨HO, HR1, HL1, HH, Ha, HT2, ⟨Hw20, Hw21, Hw22, Hw23⟩, ⟨Hp22, Hp23⟩, HW, HWp2⟩
  iapply (seg6 m K d Q v2 v5 v6 v7) $$ [-]
  isplitr
  · iexact He
  isplitl [HO HT2 HH HW HYO2 Hy]
  · unfold S10; simp only [w4]
    iframe HO HT2 HH HW HYO2 Hy
  unfold S11; simp only [w4]
  iintro ⟨HO, HD2, ⟨HH0, HH1, HH2, HH3⟩, HW, HR2, HL2, Hy⟩
  icases Hw1 with ⟨Hw10, Hw11, Hw12, Hw13⟩
  ihave HD := (hDone_all m d) $$ [HD0 HD1 HD2]
  · simp only [bs34, w4]; iframe HD0 HD1 HD2
  ihave HR := (oDone_all m d) $$ [HR0 HR1 HR2 HL0 HL1 HL2]
  · simp only [bs3]; iframe HR0 HR1 HR2 HL0 HL1 HL2
  ihave Hw20 := (wiHas_free m 2 0 0 d) $$ Hw20
  ihave Hw21 := (wiHas_free m 2 0 1 d) $$ Hw21
  ihave Hw22 := (wiHas_free m 2 0 2 d) $$ Hw22
  ihave Hw23 := (wiHas_free m 2 0 3 d) $$ Hw23
  ihave Hw10 := (wiHas_free m 1 1 0 d) $$ Hw10
  ihave Hw11 := (wiHas_free m 1 1 1 d) $$ Hw11
  ihave Hw12 := (wiHas_free m 1 1 2 d) $$ Hw12
  ihave Hw13 := (wiHas_free m 1 1 3 d) $$ Hw13
  ihave HW := (woHas_free m 2 0 d) $$ HW
  ihave HW1 := (woHas_free m 1 1 d) $$ HW1
  ihave HH0 := (some_owns _ _ _) $$ HH0
  ihave HH1 := (some_owns _ _ _) $$ HH1
  ihave HH2 := (some_owns _ _ _) $$ HH2
  ihave HH3 := (some_owns _ _ _) $$ HH3
  icases HD with ⟨HE, Hsh, Hlh⟩
  icases HR with ⟨HEO, Hso, Hlo⟩
  iapply Hk
  unfold SE Pieces wiAny woAny wiAll woAll hAny aAny
  simp only [bs24, bs2, bs34, bs3, bs4, w4]
  iframe

end Cert.Stack

end

end
-- ==== Proof.Split.lean ====
/-
# The scratch buffers and the weights, cut into the pieces of the kernel and put together again

-/
module

public import proofs.«01_k».proof.Proof.Body
public import Idealize.ShloMosaic.Lib.MemrefSat

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

/-! ## A buffer that holds anything, by pieces that hold anything -/

theorem any_whole (c : Thread nD τ) (b : Ref sig c.2.kind) :
    (iprop(∃ f : Buf (Elt F) (c.loc b), (c.loc b) ↦{fullShare} f) : sProp 𝕄) = iprop(∃ w, owns c (Memref.whole b) fullShare w) := by
  simp only [owns_whole]

theorem any_rects {T : Type} [Fintype T] [DecidableEq T] {sp : Space} {s : Shape} {e : EltTy} (c : Thread nD τ) (M : Memref sig c.2.kind sp s e)
    (r : T → Rect s) (hr : ∀ t a, (r t).stride a = 1) (hd : ∀ t t', t ≠ t' → Disjoint (r t).set (r t').set)
    (hcov : Finset.univ.biUnion (fun t => (r t).set) = Finset.univ) :
    (iprop(∃ w, owns c M fullShare w) : sProp 𝕄) ⊣⊢ bigSep Finset.univ fun t => iprop(∃ w, owns c (M.slice (r t) (hr t)) fullShare w) := by
  constructor
  · iintro ⟨%w, H⟩
    iapply ((owns_rects c M fullShare r hr hd hcov w).trans (bigSep_mono fun t _ => some_owns c _ _)) $$ H
  · refine (bigSep_mono fun t _ => (ownsSat_true c (M.slice (r t) (hr t)) fullShare).2).trans ?_
    exact (ownsSat_of_rects c M fullShare r hr hd hcov (Ψ := fun _ _ => True)).trans (ownsSat_any c M fullShare)

/-! ## The pieces are apart and are all there is -/

theorem hR_apart (p p' : Fin 3 × Fin 4) (h : p ≠ p') : Disjoint (hR p.1 p.2).set (hR p'.1 p'.2).set := by
  refine Finset.disjoint_left.mpr fun i hi hi' => h ?_
  rw [Rect.mem_set_unit] at hi hi'
  have a := hi 0; have b := hi 1; have a' := hi' 0; have b' := hi' 1
  simp [Shape.size] at a b a' b'
  exact Prod.ext (Fin.ext (by omega)) (Fin.ext (by omega))
theorem hR_all : Finset.univ.biUnion (fun p : Fin 3 × Fin 4 => (hR p.1 p.2).set) = Finset.univ := by
  refine Finset.eq_univ_iff_forall.mpr fun i => Finset.mem_biUnion.mpr ⟨(⟨(i 0).val, (i 0).isLt⟩, ⟨(i 1).val, (i 1).isLt⟩), Finset.mem_univ _, ?_⟩
  rw [Rect.mem_set_unit]
  have h2 := (i 2).isLt; have h3 := (i 3).isLt
  intro a; fin_cases a <;> simp [Shape.size] at * <;> omega
theorem oR_apart (l l' : Fin 3) (h : l ≠ l') : Disjoint (oR l).set (oR l').set := by
  refine Finset.disjoint_left.mpr fun i hi hi' => h ?_
  rw [Rect.mem_set_unit] at hi hi'
  have a := hi 0; have a' := hi' 0
  simp [Shape.size] at a a'
  exact Fin.ext (by omega)
theorem oR_all : Finset.univ.biUnion (fun l : Fin 3 => (oR l).set) = Finset.univ := by
  refine Finset.eq_univ_iff_forall.mpr fun i => Finset.mem_biUnion.mpr ⟨⟨(i 0).val, (i 0).isLt⟩, Finset.mem_univ _, ?_⟩
  rw [Rect.mem_set_unit]
  have h2 := (i 1).isLt; have h3 := (i 2).isLt
  intro a; fin_cases a <;> simp [Shape.size] at * <;> omega
theorem wiR_apart (p p' : Fin 2 × Fin 4) (h : p ≠ p') : Disjoint (wiR p.1 p.2).set (wiR p'.1 p'.2).set := by
  refine Finset.disjoint_left.mpr fun i hi hi' => h ?_
  rw [Rect.mem_set_unit] at hi hi'
  have a := hi 0; have b := hi 2; have a' := hi' 0; have b' := hi' 2
  simp [Shape.size] at a b a' b'
  exact Prod.ext (Fin.ext (by omega)) (Fin.ext (by omega))
theorem wiR_all : Finset.univ.biUnion (fun p : Fin 2 × Fin 4 => (wiR p.1 p.2).set) = Finset.univ := by
  refine Finset.eq_univ_iff_forall.mpr fun i => Finset.mem_biUnion.mpr ⟨(⟨(i 0).val, (i 0).isLt⟩, ⟨(i 2).val / 512, ?_⟩), Finset.mem_univ _, ?_⟩
  · have h3 : (i 2).val < 2048 := (i 2).isLt
    omega
  rw [Rect.mem_set_unit]
  have h2 := (i 1).isLt; have h3 := (i 2).isLt
  intro a; fin_cases a <;> simp [Shape.size] at * <;> omega
theorem woP_apart (p p' : Fin 2) (h : p ≠ p') : Disjoint (woP p).set (woP p').set := by
  refine Finset.disjoint_left.mpr fun i hi hi' => h ?_
  rw [Rect.mem_set_unit] at hi hi'
  have a := hi 0; have a' := hi' 0
  simp [Shape.size] at a a'
  exact Fin.ext (by omega)
theorem woP_all : Finset.univ.biUnion (fun p : Fin 2 => (woP p).set) = Finset.univ := by
  refine Finset.eq_univ_iff_forall.mpr fun i => Finset.mem_biUnion.mpr ⟨⟨(i 0).val, (i 0).isLt⟩, Finset.mem_univ _, ?_⟩
  rw [Rect.mem_set_unit]
  have h2 := (i 1).isLt; have h3 := (i 2).isLt
  intro a; fin_cases a <;> simp [Shape.size] at * <;> omega
theorem cR_apart (c c' : Fin 4) (h : c ≠ c') : Disjoint (cR c).set (cR c').set := by
  refine Finset.disjoint_left.mpr fun i hi hi' => h ?_
  rw [Rect.mem_set_unit] at hi hi'
  have a := hi 1; have a' := hi' 1
  simp [Shape.size] at a a'
  exact Fin.ext (by omega)
theorem cR_all : Finset.univ.biUnion (fun c : Fin 4 => (cR c).set) = Finset.univ := by
  refine Finset.eq_univ_iff_forall.mpr fun i => Finset.mem_biUnion.mpr ⟨⟨(i 1).val / 512, ?_⟩, Finset.mem_univ _, ?_⟩
  · have h3 : (i 1).val < 2048 := (i 1).isLt
    omega
  rw [Rect.mem_set_unit]
  have h2 := (i 0).isLt; have h3 := (i 1).isLt
  intro a; fin_cases a <;> simp [Shape.size] at * <;> omega
theorem wiC_apart (c c' : Fin 4) (h : c ≠ c') : Disjoint (wiC c).set (wiC c').set := by
  refine Finset.disjoint_left.mpr fun i hi hi' => h ?_
  rw [Rect.mem_set_unit] at hi hi'
  have a := hi 1; have a' := hi' 1
  simp [Shape.size] at a a'
  exact Fin.ext (by omega)
theorem wiC_all : Finset.univ.biUnion (fun c : Fin 4 => (wiC c).set) = Finset.univ := by
  refine Finset.eq_univ_iff_forall.mpr fun i => Finset.mem_biUnion.mpr ⟨⟨(i 1).val / 512, ?_⟩, Finset.mem_univ _, ?_⟩
  · have h3 : (i 1).val < 2048 := (i 1).isLt
    omega
  rw [Rect.mem_set_unit]
  have h2 := (i 0).isLt; have h3 := (i 1).isLt
  intro a; fin_cases a <;> simp [Shape.size] at * <;> omega

/-! ## The scratch buffers -/

variable (d : Dev nD)

abbrev someBuf (b : Ref sig .tc) : sProp 𝕄 := iprop(∃ f : Buf (Elt F) ((d : Thread nD τ).loc b), ((d : Thread nD τ).loc b) ↦{fullShare} f)

theorem sh_cut : (someBuf (F := F) d cc0_scratch4) ⊣⊢ shAny d := by
  rw [someBuf, any_whole]; exact any_rects (T := Fin 3 × Fin 4) (d : Thread nD τ) shM (fun p => hR p.1 p.2) (fun _ _ => rfl) hR_apart hR_all
theorem lh_cut : (someBuf (F := F) d cc0_scratch5) ⊣⊢ landH d := by
  rw [someBuf, any_whole]; exact any_rects (T := Fin 3 × Fin 4) (d : Thread nD τ) lhM (fun p => hR p.1 p.2) (fun _ _ => rfl) hR_apart hR_all
theorem so_cut : (someBuf (F := F) d cc0_scratch6) ⊣⊢ soAny d := by
  rw [someBuf, any_whole]; exact any_rects (d : Thread nD τ) soM oR (fun _ _ => rfl) oR_apart oR_all
theorem lo_cut : (someBuf (F := F) d cc0_scratch7) ⊣⊢ landO d := by
  rw [someBuf, any_whole]; exact any_rects (d : Thread nD τ) loM oR (fun _ _ => rfl) oR_apart oR_all
theorem h_cut : (someBuf (F := F) d cc0_scratch2) ⊣⊢ hAny d := by
  rw [someBuf, any_whole]; exact any_rects (d : Thread nD τ) hM cR (fun _ _ => rfl) cR_apart cR_all
theorem a_cut : (someBuf (F := F) d cc0_scratch3) ⊣⊢ aAny d := by
  rw [someBuf, any_whole]; exact any_rects (d : Thread nD τ) aM cR (fun _ _ => rfl) cR_apart cR_all

/-- The local transfers' semaphores, at zero. -/
def wiZ : sProp 𝕄 := bigSep (Finset.univ : Finset (Fin 2 × Fin 4)) fun p => semVal ((d : Thread nD τ), SemLoc.dma (wiSem p.1 p.2)) 0
def woZ : sProp 𝕄 := bigSep (Finset.univ : Finset (Fin 2)) fun p => semVal ((d : Thread nD τ), SemLoc.dma (woSem p)) 0

theorem wi_cut : iprop((someBuf (F := F) d cc0_scratch0) ∗ wiZ d) ⊣⊢ wiAny d := by
  have h := any_rects (F := F) (T := Fin 2 × Fin 4) (d : Thread nD τ) wiM (fun p => wiR p.1 p.2) (fun _ _ => rfl) wiR_apart wiR_all
  rw [someBuf, any_whole]
  unfold wiAny wiFree wiZ
  rw [bigSep_sep']
  exact ⟨sep_mono_left h.1, sep_mono_left h.2⟩
theorem wo_cut : iprop((someBuf (F := F) d cc0_scratch1) ∗ woZ d) ⊣⊢ woAny d := by
  have h := any_rects (F := F) (d : Thread nD τ) woM woP (fun _ _ => rfl) woP_apart woP_all
  rw [someBuf, any_whole]
  unfold woAny woFree woZ
  rw [bigSep_sep']
  exact ⟨sep_mono_left h.1, sep_mono_left h.2⟩

/-! ## The weights -/

/-- A device's weights, whole. -/
def wts : sProp 𝕄 :=
  iprop((bigSep (Finset.univ : Finset (Fin 3)) fun l => ((wiA l).view.loc (d : Thread nD τ) ↦[(wiA l).view.set]{fullShare} (m ((wiA l).view.loc (d : Thread nD τ)))))
    ∗ woAll m d)

theorem wi_pts (l : Fin 3) :
    ((wiA l).view.loc (d : Thread nD τ) ↦[(wiA l).view.set]{fullShare} (m ((wiA l).view.loc (d : Thread nD τ))) : sProp 𝕄)
      = bigSep (Finset.univ : Finset (Fin 4)) fun c => wiPts m l c d := by
  rw [pointsTo_rects (d : Thread nD τ) (wiA l) fullShare wiC (fun _ _ => rfl) wiC_apart wiC_all]
  exact bigSep_congr fun c _ => owns_slice_read (d : Thread nD τ) (wiA l) fullShare (wiC c) (fun _ => rfl) _
theorem wts_cut : wts m d = iprop(wiAll m d ∗ woAll m d) := by
  unfold wts wiAll
  rw [bigSep_univ_prod, bigSep_congr fun l _ => wi_pts m d l]

theorem wts_eq : wts m d ⊣⊢ Pipeline.unscopedRest (Ix := Unit) (Name := ℕ) (U := UU) (Lvl := ℕ) spec0 d (fun b => m ((d : Thread nD τ).loc b)) := by
  rw [unscopedRest0_eq]
  unfold wts woAll woPts
  rw [bs3, bs3]
  simp only [wiA, woA, Memref.view_whole, View.set_whole]
  constructor
  · iintro ⟨⟨H1, H3, H5⟩, H2, H4, H6⟩
    isplitl [H1]; · iexact H1
    isplitl [H2]; · iexact H2
    isplitl [H3]; · iexact H3
    isplitl [H4]; · iexact H4
    isplitl [H5]; · iexact H5
    iexact H6
  · iintro ⟨H1, H2, H3, H4, H5, H6⟩
    isplitl [H1 H3 H5]
    · isplitl [H1]; · iexact H1
      isplitl [H3]; · iexact H3
      iexact H5
    · isplitl [H2]; · iexact H2
      isplitl [H4]; · iexact H4
      iexact H6

/-- All the pieces, from the buffers, the local semaphores and the weights, and back. -/
theorem pieces_cut : iprop(Pipeline.scopedRest (Ix := Unit) (Name := ℕ) (U := UU) (Lvl := ℕ) (Val := Elt F) spec0 d ∗ wiZ d ∗ woZ d ∗ wts m d) ⊣⊢ Pieces m d := by
  rw [scopedRest0_eq, wts_cut]
  unfold Pieces
  constructor
  · iintro ⟨⟨H0, H1, H2, H3, H4, H5, H6, H7⟩, Hz, Hz', Hwi, Hwo⟩
    ihave H4 := (sh_cut d).1 $$ H4
    ihave H5 := (lh_cut d).1 $$ H5
    ihave H6 := (so_cut d).1 $$ H6
    ihave H7 := (lo_cut d).1 $$ H7
    ihave H2 := (h_cut d).1 $$ H2
    ihave H3 := (a_cut d).1 $$ H3
    ihave H0 := (wi_cut d).1 $$ [H0 Hz]
    · iframe H0 Hz
    ihave H1 := (wo_cut d).1 $$ [H1 Hz']
    · iframe H1 Hz'
    iframe
  · iintro ⟨H4, H5, H6, H7, H2, H3, H0, H1, Hwi, Hwo⟩
    ihave H4 := (sh_cut d).2 $$ H4
    ihave H5 := (lh_cut d).2 $$ H5
    ihave H6 := (so_cut d).2 $$ H6
    ihave H7 := (lo_cut d).2 $$ H7
    ihave H2 := (h_cut d).2 $$ H2
    ihave H3 := (a_cut d).2 $$ H3
    ihave ⟨H0, Hz⟩ := (wi_cut d).2 $$ H0
    ihave ⟨H1, Hz'⟩ := (wo_cut d).2 $$ H1
    iframe

end Cert.Stack

end

end
-- ==== Proof.Launch.lean ====
/-
# The launch: what each device starts from, and the run of the four devices

Every device's exchange semaphores become cells of the schedule, their duty tokens are dealt to the neighbours that pay
them, and the scratch buffers and the weights are cut into the kernel's pieces. After the run every array but the result
holds what it held, the result holds `resV`, and every semaphore is at zero.

-/
module

public import proofs.«01_k».proof.Proof.Split
public import Idealize.ShloMosaic.Lib.Pipeline.CollectiveSegs
public import Idealize.ShloMosaic.Lib.Quiescent

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

open Idealize.ShloMosaic.Pipeline (Dat BodyObligation)

/-! ## The families of semaphores -/

/-- The transfers' semaphores: hidden sends, hidden receives, output sends, output receives. -/
abbrev XK : Type := (Fin 3 × Fin 4) ⊕ (Fin 3 × Fin 4) ⊕ Fin 3 ⊕ Fin 3
abbrev kindX : XK → Kind
  | .inl p => .sH p.1 p.2
  | .inr (.inl p) => .rH p.1 p.2
  | .inr (.inr (.inl l)) => .sO l
  | .inr (.inr (.inr l)) => .rO l

def kindE : Unit ⊕ XK ≃ Kind where
  toFun := fun | .inl _ => .bar | .inr x => kindX x
  invFun := fun | .bar => .inl () | .sH l c => .inr (.inl (l, c)) | .rH l c => .inr (.inr (.inl (l, c)))
                | .sO l => .inr (.inr (.inr (.inl l))) | .rO l => .inr (.inr (.inr (.inr l)))
  left_inv := by rintro (_ | _ | _ | _ | _) <;> rfl
  right_inv := by rintro (_ | _ | _ | _ | _) <;> rfl

/-- Something for each transfer's semaphore. -/
theorem bsX (Φ : XK → sProp 𝕄) : bigSep (Finset.univ : Finset XK) Φ
    = iprop((bigSep (Finset.univ : Finset (Fin 3 × Fin 4)) fun p => Φ (.inl p)) ∗ (bigSep (Finset.univ : Finset (Fin 3 × Fin 4)) fun p => Φ (.inr (.inl p)))
      ∗ (bigSep (Finset.univ : Finset (Fin 3)) fun l => Φ (.inr (.inr (.inl l)))) ∗ (bigSep (Finset.univ : Finset (Fin 3)) fun l => Φ (.inr (.inr (.inr l))))) := by
  rw [bigSep_univ_sum, bigSep_univ_sum, bigSep_univ_sum]; rfl
/-- Something for each semaphore of the exchange. -/
theorem bsK (Φ : Kind → sProp 𝕄) : bigSep (Finset.univ : Finset Kind) Φ
    = iprop(Φ .bar ∗ (bigSep (Finset.univ : Finset (Fin 3 × Fin 4)) fun p => Φ (.sH p.1 p.2)) ∗ (bigSep (Finset.univ : Finset (Fin 3 × Fin 4)) fun p => Φ (.rH p.1 p.2))
      ∗ (bigSep (Finset.univ : Finset (Fin 3)) fun l => Φ (.sO l)) ∗ (bigSep (Finset.univ : Finset (Fin 3)) fun l => Φ (.rO l))) := by
  rw [bigSep_univ_equiv kindE, bigSep_univ_sum, bsX, bigSep_univ_eq_bigSepL [()] (by decide) (by decide)]; rfl

/-- The kernel's own semaphores: the local transfers' and the exchange's transfers'. -/
abbrev OS : Type := (Fin 2 × Fin 4) ⊕ Fin 2 ⊕ XK
def osem : OS → SemLoc sig
  | .inl p => .dma (wiSem p.1 p.2)
  | .inr (.inl p) => .dma (woSem p)
  | .inr (.inr x) => semOf (kindX x)

set_option synthInstance.maxHeartbeats 400000 in
set_option synthInstance.maxSize 4096 in
theorem ownSemFacts : Pipeline.OwnSemFacts cfg0.spec osem := ⟨by decide, fun a b => by revert a b; decide, by decide⟩

variable (d : Dev nD)

theorem ownSems0_eq : (Pipeline.ownSems0 (Ix := Unit) (Name := ℕ) (U := UU) (Lvl := ℕ) (Val := Elt F) (τ := τ) osem d : sProp 𝕄)
    = iprop(wiZ d ∗ woZ d ∗ bigSep (Finset.univ : Finset XK) fun x => semVal (kcell d (kindX x)) 0) := by
  unfold Pipeline.ownSems0 wiZ woZ
  rw [bigSep_univ_sum, bigSep_univ_sum]; rfl
theorem unscopedSems0_eq : (unscopedSems0 d : sProp 𝕄) = semVal (kcell d .bar) 0 := by
  unfold unscopedSems0; rw [bigSep_eq_bigSepL_of_eq [SemLoc.reg barS] (by decide) (by decide)]; rfl

theorem sems_split :
    iprop(Pipeline.ownSems0 (Ix := Unit) (Name := ℕ) (U := UU) (Lvl := ℕ) (Val := Elt F) (τ := τ) osem d ∗ unscopedSems0 d)
      ⊢ (iprop(wiZ d ∗ woZ d ∗ bigSep (Finset.univ : Finset Kind) fun k => semVal (kcell d k) 0) : sProp 𝕄) := by
  rw [ownSems0_eq, unscopedSems0_eq, bsK, bsX]
  iintro ⟨⟨Hi, Ho, H1, H2, H3, H4⟩, Hb⟩
  iframe

/-! ## The launch element -/

theorem kcell_injective : Function.Injective (fun dk : Dev nD × Kind => kcell dk.1 dk.2) := fun a b h =>
  Prod.ext (congrArg (fun g : GSem nD τ sig => g.1.1) h) (semOf_injective (congrArg Prod.snd h))
def xCells : Finset (GSem nD τ sig) := Finset.univ.map ⟨fun dk : Dev nD × Kind => kcell dk.1 dk.2, kcell_injective⟩

/-- A device's duty tokens: one for each of its semaphores, one more for its barrier. -/
abbrev tokOf (x : Dev nD × (Unit ⊕ Kind)) : GSem nD τ sig × ℕ × Bool :=
  match x.2 with
  | .inl _ => (kcell x.1 .bar, 0, true)
  | .inr k => (kcell x.1 k, 0, false)
theorem tokOf_injective : Function.Injective tokOf := by
  rintro ⟨d, _ | k⟩ ⟨d', _ | k'⟩ h
  · exact Prod.ext (congrArg (fun t : GSem nD τ sig × ℕ × Bool => t.1.1.1) h) rfl
  · exact absurd (congrArg (fun t : GSem nD τ sig × ℕ × Bool => t.2.2) h) Bool.noConfusion
  · exact absurd (congrArg (fun t : GSem nD τ sig × ℕ × Bool => t.2.2) h) Bool.noConfusion
  · have := kcell_injective (a₁ := (d, k)) (a₂ := (d', k')) (congrArg (fun t : GSem nD τ sig × ℕ × Bool => t.1) h)
    rw [Prod.ext_iff] at this
    exact Prod.ext this.1 (congrArg Sum.inr this.2)
def xToks : Finset (GSem nD τ sig × ℕ × Bool) := Finset.univ.map ⟨tokOf, tokOf_injective⟩

def u₀ : UU := (initOf (Pipeline.cells cfgs cellOf_inj) (Pipeline.launchToks cfgs cellOf_inj), (initOf xCells xToks, (1 : Counters)))

theorem ownU_parts (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of the duties of device `d`'s own semaphores, -/
def toks : sProp 𝕄 := iprop(dutyTok ER (kcell d .bar) 0 true ∗ bigSep (Finset.univ : Finset Kind) fun k => dutyTok ER (kcell d k) 0 false)
/-- and of the duties device `d` pays. -/
def payToks : sProp 𝕄 :=
  iprop(dutyTok ER (kcell (tgt d true) .bar) 0 true ∗ dutyTok ER (kcell (tgt d false) .bar) 0 false
    ∗ (bigSep (Finset.univ : Finset (Fin 3 × Fin 4)) fun p => dutyTok ER (kcell d (.sH p.1 p.2)) 0 false)
    ∗ (bigSep (Finset.univ : Finset (Fin 3 × Fin 4)) fun p => dutyTok ER (kcell (tgt d true) (.rH p.1 p.2)) 0 false)
    ∗ (bigSep (Finset.univ : Finset (Fin 3)) fun l => dutyTok ER (kcell d (.sO l)) 0 false)
    ∗ (bigSep (Finset.univ : Finset (Fin 3)) fun l => dutyTok ER (kcell (tgt d false) (.rO l)) 0 false))

/-- What the launch element deals device `d`, -/
def G : sProp 𝕄 :=
  iprop((bigSep (Finset.univ : Finset Kind) fun k => roundState ER (Rd m) (kcell d k) 0)
    ∗ (bigSep (Finset.univ : Finset Kind) fun k => atPos ER (kcell d k) 0 ∅ 0)
    ∗ (bigSep (Finset.univ : Finset Kind) fun k => reached ER (kcell d k) 0) ∗ toks d)
/-- and what it becomes once the invariants stand and the tokens are dealt. -/
def G' : sProp 𝕄 :=
  iprop(∃ K, recs m K ∗ (bigSep (Finset.univ : Finset Kind) fun k => atPos ER (kcell d k) 0 ∅ 0) ∗ payToks d ∗ wiZ d ∗ woZ d)

theorem fund_x : BI.own (ER (initOf xCells xToks)) ⊢ (|==> bigSep Finset.univ (G m) : sProp 𝕄) := by
  have hX (Φ : GSem nD τ sig → sProp 𝕄) : bigSep xCells Φ = bigSep Finset.univ fun d : Dev nD => bigSep Finset.univ fun k : Kind => Φ (kcell d k) := by
    unfold xCells; rw [bigSep_map, bigSep_univ_prod]; rfl
  have hT : bigSep xToks (fun x => (dutyTok ER x.1 x.2.1 x.2.2 : sProp 𝕄)) = bigSep Finset.univ fun d : Dev nD => toks d := by
    unfold xToks; rw [bigSep_map, bigSep_univ_prod]
    refine bigSep_congr fun d _ => ?_
    unfold toks; rw [bigSep_univ_sum, bigSep_univ_eq_bigSepL [()] (by decide) (by decide)]; rfl
  iintro HX
  imod (Rounds.fund ER (Rd m) xCells xToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

theorem core_alloc :
    iprop(Pipeline.ownSems0 (Ix := Unit) (Name := ℕ) (U := UU) (Lvl := ℕ) (Val := Elt F) (τ := τ) osem d ∗ unscopedSems0 d ∗ G m d)
      ⊢ |={Set.univ}=> iprop((bigSep (Finset.univ : Finset Kind) fun k => iprop(∃ κ : ℕ, cellInv ER (Rd m) κ (kcell d k)))
          ∗ (bigSep (Finset.univ : Finset Kind) fun k => reached ER (kcell d k) 0)
          ∗ (bigSep (Finset.univ : Finset Kind) fun k => atPos ER (kcell d k) 0 ∅ 0) ∗ toks d ∗ wiZ d ∗ woZ d) := by
  unfold G
  iintro ⟨Hos, Hus, Hst, Hat, Hr, Htok⟩
  ihave ⟨Hi, Ho, Hv⟩ := (sems_split (F := F) d) $$ [Hos Hus]
  · iframe Hos Hus
  imod (show iprop((bigSep (Finset.univ : Finset Kind) fun k => semVal (kcell d k) 0) ∗ bigSep (Finset.univ : Finset Kind) fun k => roundState ER (Rd m) (kcell d k) 0)
      ⊢ (|={Set.univ}=> bigSep (Finset.univ : Finset Kind) fun k => iprop(∃ κ : ℕ, cellInv ER (Rd m) κ (kcell d k)) : sProp 𝕄) from by
        rw [← bigSep_sep']
        exact (bigSep_mono fun k _ => (Rounds.body_intro ER (Rd m) (kcell d k)).trans inv_alloc).trans (bigSep_fupd _ _)) $$ [Hv Hst] with Hinv
  · iframe Hv Hst
  imodintro
  iframe

def ypE : Dev nD ≃ Dev nD := ⟨fun d => tgt d true, fun d => tgt d true, fun d => tgt_tgt d true, fun d => tgt_tgt d true⟩
def xpE : Dev nD ≃ Dev nD := ⟨fun d => tgt d false, fun d => tgt d false, fun d => tgt_tgt d false, fun d => tgt_tgt d false⟩

/-- The tokens go to the devices that pay them. -/
theorem toks_deal : (bigSep Finset.univ fun d : Dev nD => (toks d : sProp 𝕄)) ⊢ bigSep Finset.univ fun d : Dev nD => payToks d := by
  unfold toks payToks
  simp only [bsK]
  simp only [bigSep_sep']
  rw [bigSep_univ_equiv ypE (fun d : Dev nD => (dutyTok ER (kcell d .bar) 0 true : sProp 𝕄)),
    bigSep_univ_equiv xpE (fun d : Dev nD => (dutyTok ER (kcell d .bar) 0 false : sProp 𝕄)),
    bigSep_univ_equiv ypE (fun d : Dev nD => (bigSep (Finset.univ : Finset (Fin 3 × Fin 4)) fun p => dutyTok ER (kcell d (.rH p.1 p.2)) 0 false : sProp 𝕄)),
    bigSep_univ_equiv xpE (fun d : Dev nD => (bigSep (Finset.univ : Finset (Fin 3)) fun l => dutyTok ER (kcell d (.rO l)) 0 false : sProp 𝕄))]
  iintro ⟨H1, H2, H3, H4, H5, H6⟩
  isplitl [H1]; · iexact H1
  isplitl [H2]; · iexact H2
  isplitl [H3]; · iexact H3
  isplitl [H4]; · iexact H4
  isplitl [H5]; · iexact H5
  iexact H6

/-- A known fact handed to every device. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun d : Dev nD => iprop((bigSep (Finset.univ : Finset Kind) fun k => iprop(∃ κ : ℕ, cellInv ER (Rd m) κ (kcell d k)))
          ∗ (bigSep (Finset.univ : Finset Kind) fun k => reached ER (kcell d k) 0)
          ∗ (bigSep (Finset.univ : Finset Kind) fun k => atPos ER (kcell d k) 0 ∅ 0) ∗ toks d ∗ wiZ d ∗ woZ d) : sProp 𝕄)
      ⊢ bigSep Finset.univ (G' m) := by
  simp only [bigSep_sep']
  rw [← bigSep_univ_prod (fun dk : Dev nD × Kind => iprop(∃ κ : ℕ, cellInv ER (Rd m) κ (kcell dk.1 dk.2))),
    ← bigSep_univ_prod (fun dk : Dev nD × Kind => (reached ER (kcell dk.1 dk.2) 0 : sProp 𝕄))]
  iintro ⟨HI, HR, Hat, Htok, Hi, Ho⟩
  ihave HK := (BI.bigSep_exists_pi Finset.univ (fun (dk : Dev nD × Kind) (κ : ℕ) => (cellInv ER (Rd m) κ (kcell dk.1 dk.2) : sProp 𝕄))) $$ HI
  icases HK with ⟨%K, HI⟩
  ihave Htok := (toks_deal (F := F)) $$ Htok
  iapply (bigSep_knowing (R := recs m K)
    (Φ := fun d : Dev nD => iprop((bigSep (Finset.univ : Finset Kind) fun k => atPos ER (kcell d k) 0 ∅ 0) ∗ payToks d ∗ wiZ d ∗ woZ d)) fun d _ => by
      unfold G'
      iintro ⟨HR, H⟩
      iexists K
      iframe)
  simp only [bigSep_sep']
  isplitl [HI HR]
  · unfold recs; rw [bigSep_sep']; iframe HI HR
  iframe

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-! ## What is owed at the launch -/

theorem kcell_eq_iff {a b : Dev nD} {k k' : Kind} : kcell a k = kcell b k' ↔ a = b ∧ k = k' :=
  ⟨fun h => Prod.ext_iff.mp (kcell_injective (a₁ := (a, k)) (a₂ := (b, k')) h), fun ⟨h, h'⟩ => h ▸ h' ▸ rfl⟩

/-- All the devices together owe a semaphore as often as a plan names it. -/
theorem owed_sum (k : Kind) (ks : Plan) : ∑ e : Dev nD, Ow e ks (kcell d k) () = ks.countP (fun kb => kb.1 = k) * amt k := by
  induction ks with
  | nil => simp [Ow]
  | cons kb ks ih =>
    have h (e : Dev nD) : Ow e (kb :: ks) (kcell d k) () = Ow e ks (kcell d k) () + if e = tgt d kb.2 then (if kb.1 = k then amt k else 0) else 0 := by
      simp only [Ow]
      rw [Pi.add_apply, Finsupp.add_apply, tallyAt_apply]
      congr 1
      by_cases he : e = tgt d kb.2
      · subst he
        rw [tgt_tgt, if_pos rfl]
        by_cases hk : kb.1 = k
        · rw [if_pos ⟨by rw [hk], rfl⟩, if_pos hk, hk]
        · rw [if_neg (fun h => hk (kcell_eq_iff.mp h.1).2.symm), if_neg hk]
      · rw [if_neg (fun h => he (by rw [(kcell_eq_iff.mp h.1).1, tgt_tgt])), if_neg he]
    rw [Finset.sum_congr rfl fun e _ => h e, Finset.sum_add_distrib, ih, Finset.sum_ite_eq' Finset.univ, if_pos (Finset.mem_univ _), List.countP_cons]
    by_cases hk : kb.1 = k
    · simp [hk, Nat.add_mul]
    · simp [hk]

/-- What the neighbours owe one device's semaphores. -/
def crK : Kind → ℕ | .bar => 2 | .sH _ _ => 0 | .rH _ _ => NH | .sO _ => 0 | .rO _ => NO
theorem count_plan (k : Kind) : plan.countP (fun kb => kb.1 = k) = match k with | .bar => 2 | .rH _ _ => 1 | .rO _ => 1 | _ => 0 := by revert k; decide

theorem launch_k (k : Kind) :
    tallyOn (kcell d k) (launchCredit (Pipeline.owing fun e => Ow e plan) 0 (kcell d k)) = (tallyAt (kcell d k) () (crK k) : CellTallies nD τ sig Unit) := by
  unfold tallyAt; refine congrArg _ (Finsupp.ext fun u => ?_); cases u
  rw [Pipeline.launchCredit_owing, Finsupp.single_eq_same, owed_sum, count_plan]
  cases k <;> simp [crK, amt]

theorem creds : (Pipeline.launchCred (fun e => Ow e plan) d : sProp 𝕄) ⊢ bigSep (Finset.univ : Finset Kind) fun k => cred (tallyAt (kcell d k) () (crK k)) := by
  unfold Pipeline.launchCred
  refine (bigSep_subset (Finset.subset_univ (Finset.univ.map ⟨semOf, semOf_injective⟩))).trans ?_
  rw [bigSep_map]
  exact Entails.of_eq (bigSep_congr fun k _ => congrArg _ (launch_k d k))

/-! ## The pipeline's data -/

/-- What device `d` starts from beside its scratch buffers. -/
def start : sProp 𝕄 :=
  iprop((∃ K, Env m K) ∗ (dutyTok ER (kcell (tgt d true) .bar) 0 true ∗ dutyTok ER (kcell (tgt d false) .bar) 0 false
      ∗ cred (tallyAt (kcell d .bar) () 2) ∗ atPos ER (kcell d .bar) 0 ∅ 0) ∗ hTok d ∗ oTok d)
def Φ₀ : sProp 𝕄 := iprop(start m d ∗ Pieces m d)
def Φ₁ : sProp 𝕄 := iprop(semVal (kcell d .bar) 0 ∗ hEnd d ∗ oEnd d ∗ Pieces m d)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => resV m c
  Φ t := match t with
    | ⟨0, _⟩ => Φ₀ m c
    | ⟨_ + 1, _⟩ => Φ₁ m c
  q _ := fullShare
  owed t := match t with
    | ⟨0, _⟩ => Ow c plan
    | ⟨_ + 1, _⟩ => 0

abbrev stg (b : Ref sig .tc) (X : b.ty.Contents (Elt F)) : sProp 𝕄 :=
  iprop(∃ f : Buf (Elt F) ((d : Thread nD τ).loc b), ⌜f = X⌝ ∗ (((d : Thread nD τ).loc b) ↦{fullShare} f))

def bodyPre : sProp 𝕄 :=
  iprop(Φ₀ m d ∗ (dats m 0 d).owesAt () t0_0.castSucc
    ∗ (∃ e, stg d cc0_stg0_0 ((dats m 0 d).before (0 : Fin 2) t0_0 e)) ∗ (∃ e, stg d cc0_stg1_0 ((dats m 0 d).before (1 : Fin 2) t0_0 e)))
def bodyPost : sProp 𝕄 :=
  iprop(Φ₁ m d ∗ (dats m 0 d).owesAt () t0_0.succ ∗ stg d cc0_stg0_0 (xstg m d) ∗ stg d cc0_stg1_0 (resV m d))

theorem before_x (e) : (dats m 0 d).before (0 : Fin 2) t0_0 e = xstg m d := by
  unfold Dat.before; rw [if_pos (by rfl)]; rfl

theorem sound_body : bodyPre m d ⊢ wpD d (on (cc0_body (F := F))) (fun _ => bodyPost m d) := by
  unfold bodyPre Φ₀ start
  iintro ⟨⟨⟨⟨%K, #He⟩, Hb, Hh, Ho⟩, HP⟩, HO, ⟨%e, %g, %hg, Hx⟩, ⟨%e', %g', %hg', Hy⟩⟩
  rw [before_x] at hg
  subst hg
  iapply (run_body m K d fun _ => bodyPost m d)
  isplitr; · iexact He
  isplitl [Hb Hh Ho HP HO Hx Hy]
  · unfold SB OW
    isplitl [HO]
    · unfold Dat.owesAt Pipeline.owesWithin
      icases HO with ⟨%W, %hW, HO⟩
      iexists W; iexact HO
    isplitl [Hb]; · iexact Hb
    isplitl [Hh]; · iexact Hh
    isplitl [Ho]; · iexact Ho
    isplitl [Hx]; · iexact Hx
    isplitl [Hy]; · iexists g'; iexact Hy
    iexact HP
  unfold SE OW bodyPost Φ₁ Dat.owesAt Pipeline.owesWithin
  iintro ⟨⟨%W, HO⟩, Hb, Hh, Ho, Hx, Hy, HP⟩
  isplitl [Hb Hh Ho HP]
  · iframe
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hy

theorem body_obligation : BodyObligation (dats (F := F) m 0 d) (defs₀ (F := F)) 𝒱₀ () Set.univ := fun t => by
  rw [fin_N0 t]
  rw [bigSep_W0, bigSep_W0]
  simp only [owns_whole_eq]
  exact sound_body m d

/-! ## The side conditions -/

theorem share_eq (w : Fin cfg0.W) : (dats m 0 d).share w = fullShare := by unfold Dat.share; split <;> rfl

variable (g : Dev nD → PrngReg)

theorem start_intro :
    iprop(Pipeline.unscopedRestP Pipeline.Prefetch.none cfg0.spec d (fun b => m ((d : Thread nD τ).loc b)) ∗ levAts L lv
        ∗ Pipeline.launchCred (fun e => Ow e plan) d ∗ prngReg d (g d) ∗ G' m d)
      ⊢ |={Set.univ}=> iprop((start m d ∗ wiZ d ∗ woZ d ∗ wts m d) ∗ emp) := by
  rw [Pipeline.unscopedRestP_none]
  unfold G' payToks
  iintro ⟨Hw, Hl, Hc, -, ⟨%K, HR, Hat, ⟨H1, H2, H3, H4, H5, H6⟩, Hi, Ho⟩⟩
  ihave Hc := (creds (F := F) d) $$ Hc
  ihave Hw := (wts_eq m d).2 $$ Hw
  simp only [bsK]
  icases Hat with ⟨A1, A2, A3, A4, A5⟩
  icases Hc with ⟨C1, -, C3, -, C5⟩
  imodintro
  unfold start hTok oTok TA
  simp only [bigSep_sep']
  isplitl
  · isplitr [Hi Ho Hw]
    · isplitl [HR Hl]
      · iexists K; unfold Env; iframe HR Hl
      isplitl [H1 H2 C1 A1]
      · isplitl [H1]; · iexact H1
        isplitl [H2]; · iexact H2
        isplitl [C1]; · iexact C1
        iexact A1
      isplitl [H3 H4 A2 A3 C3]
      · isplitl [H3]; · iexact H3
        isplitl [H4]; · iexact H4
        isplitl [A2]; · iexact A2
        isplitl [A3]; · iexact A3
        iexact C3
      isplitl [H5]; · iexact H5
      isplitl [H6]; · iexact H6
      isplitl [A4]; · iexact A4
      isplitl [A5]; · iexact A5
      iexact C5
    · iframe
  · iempintro

theorem phi0_intro :
    iprop((start m d ∗ wiZ d ∗ woZ d ∗ wts m d) ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl]
  unfold Φ₀
  iintro ⟨⟨Hs, Hi, Ho, Hw⟩, -, Hr⟩
  isplitl [Hs]; · iexact Hs
  iapply (pieces_cut m d).1
  iframe

theorem phi1_exit :
    (dats m 0 d).Φ (Fin.last cfg0.N) ⊢ iprop((unscopedSems0 d ∗ wts m d) ∗ Pipeline.ownSems0 osem d ∗ Pipeline.scopedRest cfg0.spec d) := by
  rw [show (dats m 0 d).Φ (Fin.last cfg0.N) = Φ₁ m d from rfl, ownSems0_eq, unscopedSems0_eq, bsX]
  unfold Φ₁ hEnd oEnd TD
  simp only [bigSep_sep']
  iintro ⟨Hb, ⟨H1, H2⟩, ⟨H3, H4⟩, HP⟩
  ihave ⟨Hr, Hi, Ho, Hw⟩ := (pieces_cut m d).2 $$ HP
  iframe

theorem waits : (levAts L lv : sProp 𝕄) ⊢ Pipeline.cellsWaits cfgs (dats m) () 0 d :=
  Pipeline.cellsWaits_intro cfgs (dats m) () 0 d fun w s t => by
    rcases t with ⟨_ | _, ht⟩
    · exact mayWait_of d _ plan (by fin_cases w <;> fin_cases s <;> decide)
    · show levAts L lv ⊢ MayWait (d : Thread nD τ) _ () 0
      rw [MayWait_zero]; iintro -; iempintro

/-! ## The run -/

def finalA (c : Dev nD) (w : Fin cfg0.W) : Buf (Elt F) ((cfg0.win w).arr.view.loc (c : Thread nD τ)) := (dats m 0 c).arrAt w cfg0.N

/-- The weights are read only. -/
def kept (c : Dev nD) (s : MemSt nD τ sig (Elt F)) : Prop :=
  ∀ b ∈ Pipeline.restRefs sig cfg0.spec, s.mem ((c : Thread nD τ).loc b) = m ((c : Thread nD τ).loc b)

theorem run_all : θ_run defs (onTc (τ := τ) (main (F := F))) ⟨m, fun _ => 0, g⟩
    (fun r => (∀ c : Dev nD, (∀ w, r.2.mem ((cfg0.win w).arr.view.loc (c : Thread nD τ)) = finalA m c w) ∧ kept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := body_obligation m) (hne := block_pos0) (harr := arr_whole0) (hstage := stage_whole0) (hshare := share_eq m)
    (hdistinct := winFacts0.arr_inj)
    (O₀ := fun e => Ow e plan) (howed₀ := fun _ => rfl) (howedN := fun _ => rfl)
    (L := L) (lv := lv) (hL := fun _ h => if_neg h) (hwaits := waits m)
    (G := G m) (G' := G' m) (u₀ := u₀)
    (hu₀ := by
      unfold u₀
      iintro Hu
      ihave H := (ownU_parts _ _) $$ Hu
      icases H with ⟨HP, HX⟩
      imod (fund_x m) $$ HX with HG
      imodintro
      isplitl [HP] <;> iassumption)
    (hglob := glob m)
    (hA := fun _ _ => rfl) (hpf := fun _ k => k.elim0)
    (X := fun c => iprop(start m c ∗ wiZ c ∗ woZ c ∗ wts m c)) (Y := fun c => iprop(unscopedSems0 c ∗ wts m c)) (Z := fun _ => iprop(emp))
    (hX := fun c => start_intro m c g) (hin := phi0_intro m) (hout := phi1_exit m)
    (QY := fun c s => (∀ sm : SemLoc sig, sm.isScoped .tc = false → s.sem ((c.tc : Thread nD τ), sm) = 0) ∧ kept m c s)
    (hY := fun c s' => by
      iintro ⟨⟨Hu, Hw⟩, -, HSI⟩
      ihave Hw := (wts_eq m c).1 $$ Hw
      unfold Pipeline.unscopedRest
      ihave ⟨%hk, HSI⟩ := (Idealize.ShloMosaic.pointsTo_read_all _ (fun b => (c : Thread nD τ).loc b) (fun b => m ((c : Thread nD τ).loc b)) s') $$ [Hw HSI]
      · iframe Hw HSI
      imod (Pipeline.unscopedSems0_read (X := unscopedSems0 c) (c := c) fupd_intro s') $$ [Hu HSI] with ⟨%hz, HSI⟩
      · iframe Hu HSI
      imodintro
      isplitr
      · ipureintro; exact ⟨hz, hk⟩
      iexact HSI)
    (hQ := fun _ h hs => ⟨fun c => ⟨(h c).1, (h c).2.2.2⟩, sem_eq_zero hs fun c => (h c).2.2.1⟩)

end Cert.Stack

end

end
-- ==== Proof.Run.lean ====
/-
# The run of the kernel, at its arguments and its result

-/
module

public import proofs.«01_k».proof.Proof.Launch

@[expose] public section

set_option maxRecDepth 16384

noncomputable section

namespace Cert.Stack

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {α : Type}

variable (g : Dev nD → PrngReg)

/-- The array of `x` is an input: it holds what it held. -/
theorem finalA_x (c : Dev nD) : finalA m c (0 : Fin 2) = m ((c : Thread nD τ).loc main_arg0) := (dats m 0 c).arrAt_in (0 : Fin 2) rfl _

/-- The result array's one block, the whole array, holds what the body left. -/
theorem finalA_o (c : Dev nD) : (win0_1.blk (0 : Fin 1)).view.read (Elt F) (finalA m c (1 : Fin 2)) = resV m c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

/-- The arguments hold what they held. -/
def args (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

/-- Every run of the four devices ends, with the arguments as they were, each device's result `resV`, and every semaphore at zero. -/
theorem run_main : θ_run defs (onTc (τ := τ) (main (F := F))) ⟨m, fun _ => 0, g⟩
    (fun r => (∀ c : Dev nD, args m c r.2 ∧ (win0_1.blk (0 : Fin 1)).view.read (Elt F) (r.2.mem ((c : Thread nD τ).loc main_v1)) = resV m c)
      ∧ r.2.sem = fun _ => 0) :=
  (θ_run defs _ _).mono (fun r h => by
    refine ⟨fun c => ⟨?_, ?_⟩, h.2⟩
    · have k := (h.1 c).2
      exact ⟨((h.1 c).1 (0 : Fin 2)).trans (finalA_x m c), k _ (Pipeline.mem_restRefs_of main_arg1 (by decide) (by decide)),
        k _ (Pipeline.mem_restRefs_of main_arg2 (by decide) (by decide)), k _ (Pipeline.mem_restRefs_of main_arg3 (by decide) (by decide)),
        k _ (Pipeline.mem_restRefs_of main_arg4 (by decide) (by decide)), k _ (Pipeline.mem_restRefs_of main_arg5 (by decide) (by decide)),
        k _ (Pipeline.mem_restRefs_of main_arg6 (by decide) (by decide))⟩
    · rw [← finalA_o m c]
      exact congrArg _ ((h.1 c).1 (1 : Fin 2))) (run_all m g)

end Cert.Stack

end

end
-- ==== Proof.Reference.lean ====
/-
# The reference's run

The three layers over the whole arrays, on one device: a product, the maximum with zero, a product, three times.
-/
module

public import proofs.«01_k».proof.Proof.Gen.ReferenceIdeal
public import Idealize.ShloMosaic.Lib.StableHlo.Run
public import Idealize.ShloMosaic.Lib.StableHlo.Run
public import Idealize.ShloMosaic.Lib.Quiescent

@[expose] public section

set_option maxRecDepth 16384

noncomputable section

namespace Cert.Stack.Ref

open Cert.ReferenceIdeal Cert.ReferenceIdeal.Gen Idealize.ShloMosaic.StableHlo

open Idealize.ShloMosaic
open Idealize.ShloMosaic.TcCoe
open Idealize.SL.Sem

variable {F : FTy → Type} [FloatOps F]

/-- The operations of the program, in order. -/
abbrev ops : List (HloOp τ sig (Elt F)) :=
  [ binary main_arg0 main_arg1 main_v0 (fun l r => Host.dotGeneral dot_S64x2048_S2048x4096_S64x4096_1_0_0_1_n_n none l r),
    nullary main_cst (constant S_ .f32 0x00000000#32),
    unary main_cst main_v1 (broadcastInDim S64x4096 ![] bcast_S_S64x4096),
    binary main_v0 main_v1 main_v2 maximumf,
    binary main_v2 main_arg2 main_v3 (fun l r => Host.dotGeneral dot_S64x4096_S4096x2048_S64x2048_1_0_0_1_n_n none l r),
    binary main_v3 main_arg3 main_v4 (fun l r => Host.dotGeneral dot_S64x2048_S2048x4096_S64x4096_1_0_0_1_n_n none l r),
    nullary main_cst_0 (constant S_ .f32 0x00000000#32),
    unary main_cst_0 main_v5 (broadcastInDim S64x4096 ![] bcast_S_S64x4096),
    binary main_v4 main_v5 main_v6 maximumf,
    binary main_v6 main_arg4 main_v7 (fun l r => Host.dotGeneral dot_S64x4096_S4096x2048_S64x2048_1_0_0_1_n_n none l r),
    binary main_v7 main_arg5 main_v8 (fun l r => Host.dotGeneral dot_S64x2048_S2048x4096_S64x4096_1_0_0_1_n_n none l r),
    nullary main_cst_1 (constant S_ .f32 0x00000000#32),
    unary main_cst_1 main_v9 (broadcastInDim S64x4096 ![] bcast_S_S64x4096),
    binary main_v8 main_v9 main_v10 maximumf,
    binary main_v10 main_arg6 main_v11 (fun l r => Host.dotGeneral dot_S64x4096_S4096x2048_S64x2048_1_0_0_1_n_n none l r) ]

theorem main_ops (c : Dev nD) : main (F := F) c = seq ops := rfl
theorem no_scoped_bufs : (Finset.univ.filter fun b : Ref sig .tc => b.isScoped) = ∅ := by decide
theorem no_scoped_sems : (Finset.univ.filter fun sm : SemLoc sig => sm.isScoped .tc) = ∅ := by decide
theorem ops_bufs : (ops : List (HloOp τ sig (Elt F))).Forall fun op => op.bufs ⊆ tcRefs τ sig :=
  ⟨binary_bufs_sub .., nullary_bufs_sub .., unary_bufs_sub .., binary_bufs_sub .., binary_bufs_sub .., binary_bufs_sub .., nullary_bufs_sub ..,
    unary_bufs_sub .., binary_bufs_sub .., binary_bufs_sub .., binary_bufs_sub .., nullary_bufs_sub .., unary_bufs_sub .., binary_bufs_sub .., binary_bufs_sub ..⟩

/-- One layer. -/
def layer (x : FVec F S64x2048 .f32) (wi : FVec F S2048x4096 .f32) (wo : FVec F S4096x2048 .f32) : FVec F S64x2048 .f32 :=
  Host.dotGeneral dot_S64x4096_S4096x2048_S64x2048_1_0_0_1_n_n none
    (maximumf (Host.dotGeneral dot_S64x2048_S2048x4096_S64x4096_1_0_0_1_n_n none x wi)
      (broadcastInDim S64x4096 ![] bcast_S_S64x4096 (constant S_ .f32 0x00000000#32))) wo

variable (m : (ℓ : Loc nD τ sig) → Buf (Elt F) ℓ) (g : Dev nD → PrngReg)

/-- An argument of the reference. -/
abbrev arg (b : Ref sig .tc) : Buf (Elt F) (((0 : Dev nD) : Thread nD τ).loc b) := m (((0 : Dev nD) : Thread nD τ).loc b)

/-- The reference's result. -/
def result : FVec F S64x2048 .f32 :=
  layer (layer (layer (arg m main_arg0) (arg m main_arg1) (arg m main_arg2)) (arg m main_arg3) (arg m main_arg4)) (arg m main_arg5) (arg m main_arg6)

def argsKept (s : MemSt nD τ sig (Elt F)) : Prop :=
  s.mem (((0 : Dev nD) : Thread nD τ).loc main_arg0) = arg m main_arg0
    ∧ s.mem (((0 : Dev nD) : Thread nD τ).loc main_arg1) = arg m main_arg1
    ∧ s.mem (((0 : Dev nD) : Thread nD τ).loc main_arg2) = arg m main_arg2
    ∧ s.mem (((0 : Dev nD) : Thread nD τ).loc main_arg3) = arg m main_arg3
    ∧ s.mem (((0 : Dev nD) : Thread nD τ).loc main_arg4) = arg m main_arg4
    ∧ s.mem (((0 : Dev nD) : Thread nD τ).loc main_arg5) = arg m main_arg5
    ∧ s.mem (((0 : Dev nD) : Thread nD τ).loc main_arg6) = arg m main_arg6

/-- The same of every device there is, which is device 0. -/
def argsAt (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
theorem argsAt_of {m : (ℓ : Loc nD τ sig) → Buf (Elt F) ℓ} {s : MemSt nD τ sig (Elt F)} (h : argsKept m s) (c : Dev nD) : argsAt m c s := by
  obtain rfl : c = 0 := Subsingleton.elim _ _
  exact h

theorem run : θ_run defs (onTc (τ := τ) (main (F := F))) ⟨m, fun _ => 0, g⟩ fun r =>
    r.2.mem (((0 : Dev nD) : Thread nD τ).loc main_v11) = result m ∧ argsKept m r.2 :=
  (θ_run defs _ _).mono (fun _ h => ⟨(h 0 main_v11).trans (by after_results; rfl), (h 0 main_arg0).trans (by after_results), (h 0 main_arg1).trans (by after_results),
      (h 0 main_arg2).trans (by after_results), (h 0 main_arg3).trans (by after_results), (h 0 main_arg4).trans (by after_results),
      (h 0 main_arg5).trans (by after_results), (h 0 main_arg6).trans (by after_results)⟩)
    (run_seq no_scoped_bufs no_scoped_sems defs main (fun _ => ops) main_ops (fun _ => ops_bufs) m g)

/-- The program has no semaphore: every counter is zero. -/
theorem no_sems (s : MemSt nD τ sig (Elt F)) : s.sem = fun _ => 0 := sem_eq_zero_of_no_sems (by decide) s

end Cert.Stack.Ref

end

end
-- ==== Proof.Frames.lean ====
/-
# The frames of the three programs

The kernel and its idealized form are one text, run once for any float values; the reference is a host program.
-/
module

public import proofs.«01_k».proof.Defs
public import proofs.«01_k».proof.Proof.Gen.Kernel
public import proofs.«01_k».proof.Proof.Run
public import proofs.«01_k».proof.Proof.Reference
public import proofs.«01_k».proof.Proof.Gen.Pre_finite_KernelIdeal
public import proofs.«01_k».proof.Proof.Gen.Pre_finite_ReferenceIdeal

@[expose] public section

set_option maxRecDepth 16384

noncomputable section

namespace Cert.Proof

open Idealize.ShloMosaic Idealize.ShloMosaic.TcCoe Idealize.SL.Sem
open Cert.Kernel.Gen Cert.KernelIdeal.Gen Cert.ReferenceIdeal.Gen Cert.Pre_finite_KernelIdeal.Gen Cert.Pre_finite_ReferenceIdeal.Gen

/-- The kernels' body tables of the two programs are one. -/
theorem defs₀_same {F : FTy → Type} [FloatOps F] : Cert.Kernel.defs₀ (F := F) = Cert.KernelIdeal.defs₀ := by
  unfold Cert.Kernel.defs₀ Cert.KernelIdeal.defs₀
  refine congrArg Defs.onTc ?_
  funext l a
  match l, a with
  | 0, (t, s) => rfl
/-- And so are their body tables with the pipelines'. -/
theorem defs_same : Cert.Kernel.defs (F := Bits) = Cert.KernelIdeal.defs :=
  congrArg (Pipeline.defs (Cert.KernelIdeal.pcfgs (F := Bits))) defs₀_same

theorem frame_kernel : Cert.quiescent_Kernel := fun m g _ => by
  rw [defs_same]
  exact (θ_run Cert.KernelIdeal.defs _ _).mono (fun _ h => ⟨fun c => (h.1 c).1, h.2⟩) (Cert.Stack.run_main (F := Bits) m g)

/-- The idealized kernel's frame asks nothing of its arguments. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD, Cert.Stack.args m c r.2) ∧ r.2.sem = fun _ => 0) :=
  (θ_run Cert.KernelIdeal.defs _ _).mono (fun _ h => ⟨fun c => (h.1 c).1, h.2⟩) (Cert.Stack.run_main m g)
theorem frame_kernelIdeal : Cert.quiescent_KernelIdeal := fun m g _ => frame_ideal m g

theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD, Cert.Stack.Ref.argsAt m c r.2) ∧ r.2.sem = fun _ => 0) :=
  (θ_run Cert.ReferenceIdeal.defs _ _).mono (fun _ h => ⟨fun c => Cert.Stack.Ref.argsAt_of h.2 c, Cert.Stack.Ref.no_sems _⟩) (Cert.Stack.Ref.run m g)
theorem frame_reference : Cert.quiescent_ReferenceIdeal := fun m g _ => frame_ref m g

theorem frame_kernelIdeal_finite : Cert.quiescent_KernelIdeal_pre_finite_KernelIdeal := fun m g _ => frame_ideal m g
theorem frame_reference_finite : Cert.quiescent_ReferenceIdeal_pre_finite_ReferenceIdeal := fun m g _ => frame_ref m g

end Cert.Proof

end

end
-- ==== Proof.Payloads.lean ====
/-
# The kernel's payloads over the extended reals

Each value the kernel stores, read at an index: products as sums over the contracted coordinate, changes of format the
identity, the leading unit axes dropped.
-/
module

public import proofs.«01_k».proof.Proof.Common
public import Idealize.ShloMosaic.Lib.Pointwise

@[expose] public section

set_option maxRecDepth 16384

noncomputable section

namespace Cert.Stack.Val

open Idealize.ShloMosaic
open Cert.KernelIdeal Cert.KernelIdeal.Gen
open scoped BigOperators

/-- The first layer's hidden chunk. -/
theorem pay3_apply (x : FVec Ideal S64x1024 .f32) (w : FVec Ideal S1x1024x512 .f32) (r : Fin 64) (q : Fin 512) :
    k0_pay3 (k0_pay2 x) w (ix2 r q) = ∑ k : Fin 1024, x (ix2 r k) * w (ix3 0 k q) := by
  pointwise [k0_pay3, k0_pay2]

theorem pay11_apply (h : FVec Ideal S64x512 .f32) (g : FVec Ideal S64x512 .f32) (w : FVec Ideal S1x512x1024 .f32) (r : Fin 64) (k : Fin 1024) :
    k0_pay11 (F := Ideal) h (k0_pay4 (F := Ideal) g) w (ix2 r k) = ∑ q : Fin 512, max (h (ix2 r q) + g (ix2 r q)) 0 * w (ix3 0 q k) := by
  pointwise [k0_pay11, k0_pay4]

theorem pay12_apply (a : FVec Ideal S64x1024 .f32) (h : FVec Ideal S64x512 .f32) (g : FVec Ideal S64x512 .f32) (w : FVec Ideal S1x512x1024 .f32) (r : Fin 64) (k : Fin 1024) :
    k0_pay12 (F := Ideal) a h (k0_pay4 (F := Ideal) g) w (ix2 r k) = a (ix2 r k) + ∑ q : Fin 512, max (h (ix2 r q) + g (ix2 r q)) 0 * w (ix3 0 q k) := by
  pointwise [k0_pay12, k0_pay4]

theorem pay15_apply (a : FVec Ideal S64x1024 .f32) (h : FVec Ideal S64x512 .f32) (g : FVec Ideal S1x1x64x512 .bf16) (w : FVec Ideal S1x512x1024 .f32) (r : Fin 64) (k : Fin 1024) :
    k0_pay15 a h g w (ix3 0 r k) = k0_pay12 a h g w (ix2 r k) := by
  pointwise [k0_pay12, k0_pay15, k0_pay14]

theorem next_apply (a : FVec Ideal S64x1024 .f32) (b : FVec Ideal S1x64x1024 .bf16) (w : FVec Ideal S1x1024x512 .f32) (r : Fin 64) (q : Fin 512) :
    k0_pay44 (k0_pay16 a w) b w (ix2 r q) = (∑ k : Fin 1024, a (ix2 r k) * w (ix3 0 k q)) + ∑ k : Fin 1024, b (ix3 0 r k) * w (ix3 0 k q) := by
  pointwise [k0_pay44, k0_pay16]

theorem pay1_apply (a : FVec Ideal S64x1024 .f32) (b : FVec Ideal S1x64x1024 .bf16) (r : Fin 64) (k : Fin 1024) :
    k0_pay1 a b (ix2 r k) = a (ix2 r k) + b (ix3 0 r k) := by
  pointwise [k0_pay1]

end Cert.Stack.Val

end

end
-- ==== Proof.Reads.lean ====
/-
# What the kernel reads, as entries of the argument arrays
-/
module

public import proofs.«01_k».proof.Proof.Payloads
public import Idealize.ShloMosaic.Lib.ValueLayout

@[expose] public section

set_option maxRecDepth 16384

noncomputable section

namespace Cert.Stack.Val

open Idealize.ShloMosaic Idealize.ShloMosaic.TcCoe
open Cert.KernelIdeal Cert.KernelIdeal.Gen

variable {F : FTy → Type} [FloatOps F] (m : (ℓ : Loc nD τ sig) → Buf (Elt F) ℓ)

/-- Device `d`'s block of `x`, -/
def xL (d : Dev nD) : S64x1024.Idx → F .f32 := m ((d : Thread nD τ).loc main_arg0)
/-- of layer `l`'s first weights, -/
def wiL (l : Fin 3) (d : Dev nD) : S1024x2048.Idx → F .f32 :=
  match l with | 0 => m ((d : Thread nD τ).loc main_arg1) | 1 => m ((d : Thread nD τ).loc main_arg3) | 2 => m ((d : Thread nD τ).loc main_arg5)
/-- and of its second weights. -/
def woL (l : Fin 3) (d : Dev nD) : S2048x1024.Idx → F .f32 :=
  match l with | 0 => m ((d : Thread nD τ).loc main_arg2) | 1 => m ((d : Thread nD τ).loc main_arg4) | 2 => m ((d : Thread nD τ).loc main_arg6)

/-- Place `q` of chunk `c`, among the 2048. -/
def cq (c : Fin 4) (q : Fin 512) : Fin 2048 := ⟨512 * c.val + q.val, by omega⟩

/-- The staged arrays are whole: an index of the block is the array's own. -/
theorem blk_emb0 (j : S64x1024.Idx) : (win0_0.blk (0 : Fin 1)).view.emb j = j := by
  funext a; apply Fin.ext
  show 0 * S64x1024.size a + 1 * (j a).val = (j a).val
  omega
theorem blk_emb1 (j : S64x1024.Idx) : (win0_1.blk (0 : Fin 1)).view.emb j = j := by
  funext a; apply Fin.ext
  show 0 * S64x1024.size a + 1 * (j a).val = (j a).val
  omega

theorem xstg_eq (d : Dev nD) : xstg m d = xL m d := by
  funext j
  exact congrArg (m ((d : Thread nD τ).loc main_arg0)) (blk_emb0 j)

/-- The result array read through its block is the array. -/
theorem read_result (d : Dev nD) (b : Buf (Elt F) ((d : Thread nD τ).loc main_v1)) :
    (win0_1.blk (0 : Fin 1)).view.read (Elt F) b = b := by
  funext j
  exact congrArg b (blk_emb1 j)

theorem wiS_read (l : Fin 3) (d : Dev nD) (c : Fin 4) (k : Fin 1024) (q : Fin 512) :
    (wiS l c).view.read (Elt F) (m ((wiS l c).view.loc (d : Thread nD τ))) (ix2 k q) = wiL m l d (ix2 k (cq c q)) := by
  have e : (wiC c).emb (ix2 k q) = ix2 k (cq c q) := by
    funext a; apply Fin.ext
    match a with
    | ⟨0, _⟩ => show 0 + 1 * k.val = k.val; omega
    | ⟨1, _⟩ => show 512 * c.val + 1 * q.val = 512 * c.val + q.val; omega
  match l with
  | 0 => exact congrArg (wiL m 0 d) e
  | 1 => exact congrArg (wiL m 1 d) e
  | 2 => exact congrArg (wiL m 2 d) e

theorem wiV_apply (l : Fin 3) (d : Dev nD) (c : Fin 4) (k : Fin 1024) (q : Fin 512) :
    wiV m l d c (ix3 0 k q) = wiL m l d (ix2 k (cq c q)) := by
  unfold wiV unsq
  rw [show (Shape.reshapeEquiv (squeezes_S1x1024x512_S1024x512).numel_eq).symm (ix3 0 k q) = ix2 k q from by
    rw [Equiv.symm_apply_eq]; exact (ValueIdx.reshapeEquiv_ix2_1ab _ k q).symm]
  exact wiS_read m l d c k q

theorem woA_read (l : Fin 3) (d : Dev nD) : (woA l).view.read (Elt F) (m ((woA l).view.loc (d : Thread nD τ))) = woL m l d := by
  match l with
  | 0 => rfl
  | 1 => rfl
  | 2 => rfl

theorem woV_apply (l : Fin 3) (p : Fin 2) (d : Dev nD) (c : Fin 4) (q : Fin 512) (k : Fin 1024) :
    woV m l p d c (ix3 0 q k) = woL m l d (ix2 (cq c q) k) := by
  have e : (woR p c).emb (ix3 0 q k) = (woQ p).view.emb (ix2 (cq c q) k) := by
    show _ = (woP p).emb (Shape.reshapeEquiv (squeezes_S1x2048x1024_S2048x1024).numel_eq (ix2 (cq c q) k))
    refine Eq.trans ?_ (congrArg (woP p).emb (ValueIdx.reshapeEquiv_ix2_1ab _ (cq c q) k).symm)
    funext a; apply Fin.ext
    match a with
    | ⟨0, _⟩ => rfl
    | ⟨1, _⟩ => show 512 * c.val + 1 * q.val = 0 + 1 * (512 * c.val + q.val); omega
    | ⟨2, _⟩ => rfl
  show woB m l p d ((woR p c).emb (ix3 0 q k)) = _
  rw [e]
  unfold woB
  rw [View.write_emb_of_mem _ _ (Finset.mem_univ _), woA_read]
  rfl

end Cert.Stack.Val

end

end
-- ==== Proof.Sums.lean ====
/-
# Sums over a cut dimension, finite entries, and the blocks of the mesh

Device `d` holds block `d % 2` of a dimension cut along `y` and block `d / 2` of one cut along `x`.
-/
module

public import proofs.«01_k».proof.Proof.Reads
public import Idealize.ShloMosaic.Lib.Layout

@[expose] public section

set_option maxRecDepth 16384

noncomputable section

namespace Cert.Stack.Val

open Idealize.ShloMosaic
open Cert.KernelIdeal (nD)
open scoped BigOperators

/-- Place `k` of device `d`'s block of the 2048 cut along `y`, -/
def gy (d : Dev nD) (k : Fin 1024) : Fin 2048 := ⟨d.val % 2 * 1024 + k.val, by omega⟩
/-- and place `j` of its block of the 4096 cut along `x`. -/
def gx (d : Dev nD) (j : Fin 2048) : Fin 4096 := ⟨d.val / 2 * 2048 + j.val, by have : d.val < 4 := d.isLt; omega⟩

theorem gy_xp (d : Dev nD) : gy (xp d) = gy d := by
  match d with | 0 => rfl | 1 => rfl | 2 => rfl | 3 => rfl
theorem gx_yp (d : Dev nD) : gx (yp d) = gx d := by
  match d with | 0 => rfl | 1 => rfl | 2 => rfl | 3 => rfl

section Sums
variable {M : Type*} [AddCommMonoid M]

theorem sum_halves {n : ℕ} (f : Fin (n + n) → M) :
    ∑ i, f i = (∑ k : Fin n, f ⟨0 * n + k.val, by omega⟩) + ∑ k : Fin n, f ⟨1 * n + k.val, by omega⟩ := by
  rw [Fin.sum_univ_add]
  congr 1
  · exact Finset.sum_congr rfl fun k _ => congrArg f (Fin.ext (by show k.val = 0 * n + k.val; omega))
  · exact Finset.sum_congr rfl fun k _ => congrArg f (Fin.ext (by show n + k.val = 1 * n + k.val; omega))

/-- A sum over a dimension cut along `y` is the device's part and its `y` neighbour's. -/
theorem sum_gy (d : Dev nD) (f : Fin 2048 → M) : ∑ i, f i = (∑ k, f (gy d k)) + ∑ k, f (gy (yp d) k) := by
  have h : ∑ i, f i = _ := sum_halves (n := 1024) f
  match d with
  | 0 => exact h
  | 1 => exact h.trans (add_comm _ _)
  | 2 => exact h
  | 3 => exact h.trans (add_comm _ _)

/-- A sum over a dimension cut along `x` is the device's part and its `x` neighbour's. -/
theorem sum_gx (d : Dev nD) (f : Fin 4096 → M) : ∑ i, f i = (∑ j, f (gx d j)) + ∑ j, f (gx (xp d) j) := by
  have h : ∑ i, f i = _ := sum_halves (n := 2048) f
  match d with
  | 0 => exact h
  | 1 => exact h
  | 2 => exact h.trans (add_comm _ _)
  | 3 => exact h.trans (add_comm _ _)

/-- A sum over the 2048 is the sum over its four chunks. -/
theorem sum_cq (f : Fin 2048 → M) : ∑ j, f j = ∑ c : Fin 4, ∑ q : Fin 512, f (cq c q) := by
  rw [← Fintype.sum_prod_type']
  refine (Equiv.sum_comp (finProdFinEquiv (m := 4) (n := 512)) (f : Fin (4 * 512) → M)).symm.trans (Finset.sum_congr rfl fun x _ => congrArg f (Fin.ext ?_))
  show x.2.val + 512 * x.1.val = 512 * x.1.val + x.2.val
  omega
end Sums

/-! ## Finite entries -/

/-- An extended real that is a real number. -/
def IsReal (e : EReal) : Prop := ∃ r : ℝ, (r : EReal) = e

theorem IsReal.add {a b : EReal} (ha : IsReal a) (hb : IsReal b) : IsReal (a + b) := by
  obtain ⟨x, rfl⟩ := ha; obtain ⟨y, rfl⟩ := hb; exact ⟨x + y, EReal.coe_add x y⟩
theorem IsReal.mul {a b : EReal} (ha : IsReal a) (hb : IsReal b) : IsReal (a * b) := by
  obtain ⟨x, rfl⟩ := ha; obtain ⟨y, rfl⟩ := hb; exact ⟨x * y, EReal.coe_mul x y⟩
theorem IsReal.zero : IsReal 0 := ⟨0, rfl⟩
theorem IsReal.relu {a : EReal} (ha : IsReal a) : IsReal (max a 0) := by
  rcases max_choice a 0 with h | h <;> rw [h]
  · exact ha
  · exact IsReal.zero
theorem IsReal.sum {n : ℕ} {f : Fin n → EReal} (h : ∀ k, IsReal (f k)) : IsReal (∑ k, f k) :=
  Finset.sum_induction f IsReal (fun _ _ => IsReal.add) IsReal.zero fun k _ => h k

/-- Real numbers multiply into a sum. -/
theorem IsReal.add_mul {a b w : EReal} (ha : IsReal a) (hb : IsReal b) (hw : IsReal w) : (a + b) * w = a * w + b * w := by
  obtain ⟨x, rfl⟩ := ha; obtain ⟨y, rfl⟩ := hb; obtain ⟨z, rfl⟩ := hw
  exact_mod_cast _root_.add_mul x y z

/-! ## The blocks -/

section Blocks
variable {α : Type}

theorem blk_row (d : Dev nD) (v : (⟨2, ![64, 2048]⟩ : Shape).Idx → α) (r : Fin 64) (k : Fin 1024) :
    Layout.blockN ⟨2, ![64, 1024]⟩ ⟨2, ![64, 2048]⟩ (Layout.meshBlock [2, 2] ![[], [1]] d) v (by decide) (ix2 r k) = v (ix2 r (gy d k)) := by
  rw [Layout.blockN_apply]
  refine congrArg v (funext fun a => Fin.ext ?_)
  match d, a with
  | 0, ⟨0, _⟩ => exact Nat.zero_add _
  | 1, ⟨0, _⟩ => exact Nat.zero_add _
  | 2, ⟨0, _⟩ => exact Nat.zero_add _
  | 3, ⟨0, _⟩ => exact Nat.zero_add _
  | 0, ⟨1, _⟩ => rfl
  | 1, ⟨1, _⟩ => rfl
  | 2, ⟨1, _⟩ => rfl
  | 3, ⟨1, _⟩ => rfl

theorem blk_win (d : Dev nD) (v : (⟨2, ![2048, 4096]⟩ : Shape).Idx → α) (k : Fin 1024) (j : Fin 2048) :
    Layout.blockN ⟨2, ![1024, 2048]⟩ ⟨2, ![2048, 4096]⟩ (Layout.meshBlock [2, 2] ![[1], [0]] d) v (by decide) (ix2 k j) = v (ix2 (gy d k) (gx d j)) := by
  rw [Layout.blockN_apply]
  refine congrArg v (funext fun a => Fin.ext ?_)
  match d, a with
  | 0, ⟨0, _⟩ => rfl
  | 1, ⟨0, _⟩ => rfl
  | 2, ⟨0, _⟩ => rfl
  | 3, ⟨0, _⟩ => rfl
  | 0, ⟨1, _⟩ => rfl
  | 1, ⟨1, _⟩ => rfl
  | 2, ⟨1, _⟩ => rfl
  | 3, ⟨1, _⟩ => rfl

theorem blk_wout (d : Dev nD) (v : (⟨2, ![4096, 2048]⟩ : Shape).Idx → α) (j : Fin 2048) (k : Fin 1024) :
    Layout.blockN ⟨2, ![2048, 1024]⟩ ⟨2, ![4096, 2048]⟩ (Layout.meshBlock [2, 2] ![[0], [1]] d) v (by decide) (ix2 j k) = v (ix2 (gx d j) (gy d k)) := by
  rw [Layout.blockN_apply]
  refine congrArg v (funext fun a => Fin.ext ?_)
  match d, a with
  | 0, ⟨0, _⟩ => rfl
  | 1, ⟨0, _⟩ => rfl
  | 2, ⟨0, _⟩ => rfl
  | 3, ⟨0, _⟩ => rfl
  | 0, ⟨1, _⟩ => rfl
  | 1, ⟨1, _⟩ => rfl
  | 2, ⟨1, _⟩ => rfl
  | 3, ⟨1, _⟩ => rfl

end Blocks

end Cert.Stack.Val

end

end
-- ==== Proof.Layers.lean ====
/-
# The kernel's layers are the reference's

Over the extended reals a layer's hidden partials are the sums over a device's own rows of the first weights, so that a
device's and its `y` neighbour's add up to the hidden value; the output partials are the sums over a device's own hidden
columns, so that a device's and its `x` neighbour's add up to the output. The next layer multiplies the two output
partials by its weights before it adds them: here, and only here, the entries have to be real numbers.
-/
module

public import proofs.«01_k».proof.Proof.Sums
public import proofs.«01_k».proof.Proof.Reference

@[expose] public section

set_option maxRecDepth 16384

noncomputable section

namespace Cert.Stack.Val

open Idealize.ShloMosaic Idealize.ShloMosaic.TcCoe
open Cert.KernelIdeal Cert.KernelIdeal.Gen Cert.ReferenceIdeal.Gen
open scoped BigOperators

/-- An output of the reference's layer: products summed over the hidden places, each clipped at zero. -/
theorem layer_apply (x : FVec Ideal ⟨2, ![64, 2048]⟩ .f32) (wi : FVec Ideal ⟨2, ![2048, 4096]⟩ .f32) (wo : FVec Ideal ⟨2, ![4096, 2048]⟩ .f32)
    (r : Fin 64) (k : Fin 2048) :
    Ref.layer (F := Ideal) x wi wo (ix2 r k) = ∑ j : Fin 4096, max (∑ i : Fin 2048, x (ix2 r i) * wi (ix2 i j)) 0 * wo (ix2 j k) := by
  pointwise [Ref.layer]

variable (m : (ℓ : Loc nD τ sig) → Buf (Elt Ideal) ℓ)

/-- A layer's output partial, read at an index. -/
theorem oaF_apply (h : Dev nD → Fin 4 → FVec Ideal S64x512 .f32) (l : Fin 3) (p : Fin 2) (d : Dev nD) (r : Fin 64) (k : Fin 1024) :
    oaF m h l p d (ix2 r k)
      = ∑ c : Fin 4, ∑ q : Fin 512, max (h d c (ix2 r q) + h (yp d) c (ix2 r q)) 0 * woL m l d (ix2 (cq c q) k) := by
  unfold oaF oa3 oa2 oa1
  rw [pay12_apply, pay12_apply, pay12_apply, pay11_apply, Fin.sum_univ_four]
  simp only [woV_apply]

/-- What is sent is the partial. -/
theorem soF_apply (h : Dev nD → Fin 4 → FVec Ideal S64x512 .f32) (l : Fin 3) (p : Fin 2) (d : Dev nD) (r : Fin 64) (k : Fin 1024) :
    soF m h l p d (ix3 0 r k) = oaF m h l p d (ix2 r k) := pay15_apply _ _ _ _ r k

/-- The next layer's hidden partial, read at an index. -/
theorem nxtH_apply (h : Dev nD → Fin 4 → FVec Ideal S64x512 .f32) (l l' : Fin 3) (p : Fin 2) (d : Dev nD) (c : Fin 4) (r : Fin 64) (q : Fin 512) :
    nxtH m h l l' p d c (ix2 r q)
      = (∑ k : Fin 1024, oaF m h l p d (ix2 r k) * wiL m l' d (ix2 k (cq c q)))
        + ∑ k : Fin 1024, oaF m h l p (xp d) (ix2 r k) * wiL m l' d (ix2 k (cq c q)) := by
  unfold nxtH
  rw [next_apply]
  simp only [soF_apply, wiV_apply]

/-- `h` holds the hidden partials of a layer with input `x` and first weights `wi`. -/
def Hidden (h : Dev nD → Fin 4 → FVec Ideal S64x512 .f32) (x : FVec Ideal ⟨2, ![64, 2048]⟩ .f32) (wi : FVec Ideal ⟨2, ![2048, 4096]⟩ .f32) : Prop :=
  ∀ d c r q, h d c (ix2 r q) = ∑ k : Fin 1024, x (ix2 r (gy d k)) * wi (ix2 (gy d k) (gx d (cq c q)))

/-- The devices' blocks of layer `l`'s weights are blocks of `wi` and of `wo`. -/
def WinOf (l : Fin 3) (wi : FVec Ideal ⟨2, ![2048, 4096]⟩ .f32) : Prop := ∀ d k j, wiL m l d (ix2 k j) = wi (ix2 (gy d k) (gx d j))
def WoutOf (l : Fin 3) (wo : FVec Ideal ⟨2, ![4096, 2048]⟩ .f32) : Prop := ∀ d j k, woL m l d (ix2 j k) = wo (ix2 (gx d j) (gy d k))

variable {m} {h : Dev nD → Fin 4 → FVec Ideal S64x512 .f32} {x : FVec Ideal ⟨2, ![64, 2048]⟩ .f32} {wi wi' : FVec Ideal ⟨2, ![2048, 4096]⟩ .f32}
  {wo : FVec Ideal ⟨2, ![4096, 2048]⟩ .f32} {l l' : Fin 3}

/-- A device's hidden partial and its `y` neighbour's add up to the hidden value. -/
theorem Hidden.pair (H : Hidden h x wi) (d : Dev nD) (c : Fin 4) (r : Fin 64) (q : Fin 512) :
    h d c (ix2 r q) + h (yp d) c (ix2 r q) = ∑ i : Fin 2048, x (ix2 r i) * wi (ix2 i (gx d (cq c q))) := by
  rw [H d, H (yp d), gx_yp, sum_gy d]

/-- A device's output partial and its `x` neighbour's add up to the layer's output. -/
theorem Hidden.out (H : Hidden h x wi) (W : WoutOf m l wo) (p : Fin 2) (d : Dev nD) (r : Fin 64) (k : Fin 1024) :
    oaF m h l p d (ix2 r k) + oaF m h l p (xp d) (ix2 r k) = Ref.layer (F := Ideal) x wi wo (ix2 r (gy d k)) := by
  rw [oaF_apply, oaF_apply, layer_apply, sum_gx d, sum_cq, sum_cq]
  simp only [H.pair, W d, W (xp d), gy_xp]

/-- The output partials of real hidden partials and real weights are real. -/
theorem oaF_real (Hr : ∀ d c r q, IsReal (h d c (ix2 r q))) (Wr : ∀ d i, IsReal (woL m l d i)) (p : Fin 2) (d : Dev nD) (r : Fin 64) (k : Fin 1024) :
    IsReal (oaF m h l p d (ix2 r k)) := by
  rw [oaF_apply]
  exact IsReal.sum fun c => IsReal.sum fun q => (((Hr d c r q).add (Hr (yp d) c r q)).relu).mul (Wr d _)

/-- The next layer's hidden partials are real, -/
theorem nxtH_real (Hr : ∀ d c r q, IsReal (h d c (ix2 r q))) (Wr : ∀ d i, IsReal (woL m l d i)) (Vr : ∀ d i, IsReal (wiL m l' d i)) (p : Fin 2)
    (d : Dev nD) (c : Fin 4) (r : Fin 64) (q : Fin 512) : IsReal (nxtH m h l l' p d c (ix2 r q)) := by
  rw [nxtH_apply]
  exact (IsReal.sum fun k => (oaF_real Hr Wr p d _ k).mul (Vr d _)).add (IsReal.sum fun k => (oaF_real Hr Wr p (xp d) _ k).mul (Vr d _))

/-- and they are the hidden partials of the layer fed with the output. -/
theorem Hidden.next (H : Hidden h x wi) (W : WoutOf m l wo) (V : WinOf m l' wi') (Hr : ∀ d c r q, IsReal (h d c (ix2 r q)))
    (Wr : ∀ d i, IsReal (woL m l d i)) (Vr : ∀ d i, IsReal (wiL m l' d i)) (p : Fin 2) :
    Hidden (nxtH m h l l' p) (Ref.layer (F := Ideal) x wi wo) wi' := by
  intro d c r q
  rw [nxtH_apply, ← Finset.sum_add_distrib]
  refine Finset.sum_congr rfl fun k _ => ?_
  rw [← IsReal.add_mul (oaF_real Hr Wr p d r k) (oaF_real Hr Wr p (xp d) r k) (Vr d _), H.out W p d r k, V d]

/-- The first layer's hidden partials. -/
theorem hidden_first (X : ∀ d r k, xL m d (ix2 r k) = x (ix2 r (gy d k))) (V : WinOf m 0 wi) : Hidden (h0 m) x wi := by
  intro d c r q
  unfold h0
  rw [xstg_eq, pay3_apply]
  simp only [wiV_apply, X d, V d]
theorem h0_real (Xr : ∀ d i, IsReal (xL m d i)) (Vr : ∀ d i, IsReal (wiL m 0 d i)) (d : Dev nD) (c : Fin 4) (r : Fin 64) (q : Fin 512) : IsReal (h0 m d c (ix2 r q)) := by
  unfold h0
  rw [xstg_eq, pay3_apply]
  simp only [wiV_apply]
  exact IsReal.sum fun k => (Xr d _).mul (Vr d _)

/-- What a device leaves is its block of the last layer's output. -/
theorem Hidden.res (H : Hidden (h2 m) x wi) (W : WoutOf m 2 wo) (d : Dev nD) (r : Fin 64) (k : Fin 1024) :
    resV m d (ix2 r k) = Ref.layer (F := Ideal) x wi wo (ix2 r (gy d k)) := by
  unfold resV
  rw [pay1_apply, soF_apply, H.out W 0 d r k]

end Cert.Stack.Val

end

end
-- ==== Proof.Precondition.lean ====
/-
# The precondition: every entry but the last weights' is a real number
-/
module

public import proofs.«01_k».proof.Defs
public import proofs.«01_k».proof.Proof.Gen.KernelIdeal
public import proofs.«01_k».proof.Proof.Gen.Pre_finite_KernelIdeal
public import proofs.«01_k».proof.Proof.Sums
public import Idealize.ShloMosaic.Lib.ReduceAll

@[expose] public section

set_option maxRecDepth 16384

noncomputable section

namespace Cert.Stack.Val

open Idealize.ShloMosaic Idealize.ShloMosaic.TcCoe
open Cert.KernelIdeal Cert.KernelIdeal.Gen Cert.Pre_finite_KernelIdeal.Gen

/-- An entry whose absolute value is below infinity is a real number. -/
theorem isReal_of_olt (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  obtain ⟨h1, h2⟩ := max_lt_iff.mp hlt
  refine ⟨EReal.toReal x, EReal.coe_toReal h1.ne fun hb => ?_⟩
  rw [hb] at h2
  simp at h2

/-- Both of two conditions hold where their conjunction does. -/
theorem andi_both {s : Shape} (x y : IVec s 1) (j : s.Idx) (h : andi x y j = 1#1) : x j = 1#1 ∧ y j = 1#1 := by
  have h' : x j &&& y j = 1#1 := h
  generalize x j = a at h' ⊢
  generalize y j = b at h' ⊢
  revert a b
  decide

/-- An array all of whose entries pass the test has real entries. -/
theorem real_of_all {s u : Shape} {axes : List (Fin s.rank)} (a : FVec Ideal s .f32) (hb : (⟨0, ![]⟩ : Shape).BroadcastsInDim s ![])
    (v : u.Idx → BitVec 1) (hr : s.ReducesTo axes ⟨0, ![]⟩) (hu : 0 < u.numel)
    (h : Host.reduce IntOp.andi (cmpf .olt (Host.absf a) (broadcastInDim s ![] hb (constant (F := Ideal) ⟨0, ![]⟩ .f32 0x7F800000#32))) v hr hu ix0 = 1#1)
    (i : s.Idx) : IsReal (a i) :=
  isReal_of_olt (a i) (Host.reduce_andi_all _ _ hr hu ix0 h i)

variable {m : (ℓ : Loc nD τ sig) → Buf (Elt Ideal) ℓ}

/-- What the precondition says of a device's blocks. -/
theorem pre_real (h : Cert.Pre_KernelIdeal_finite_KernelIdeal m) (d : Dev nD) :
    (∀ i, IsReal (xL m d i)) ∧ (∀ i, IsReal (wiL m 0 d i)) ∧ (∀ i, IsReal (woL m 0 d i)) ∧ (∀ i, IsReal (wiL m 1 d i))
      ∧ (∀ i, IsReal (woL m 1 d i)) ∧ ∀ i, IsReal (wiL m 2 d i) := by
  have h' := congrFun (h d) ix0
  unfold Cert.Pre_finite_KernelIdeal.fn Cert.Pre_finite_KernelIdeal.fn_part1 at h'
  obtain ⟨h', h5⟩ := andi_both _ _ _ h'
  obtain ⟨h', h4⟩ := andi_both _ _ _ h'
  obtain ⟨h', h3⟩ := andi_both _ _ _ h'
  obtain ⟨h', h2⟩ := andi_both _ _ _ h'
  obtain ⟨h0, h1⟩ := andi_both _ _ _ h'
  exact ⟨real_of_all _ _ _ _ _ h0, real_of_all _ _ _ _ _ h1, real_of_all _ _ _ _ _ h2, real_of_all _ _ _ _ _ h3, real_of_all _ _ _ _ _ h4,
    real_of_all _ _ _ _ _ h5⟩

end Cert.Stack.Val

end

end
-- ==== Proof.Algebraic.lean ====
/-
# The value claim

Over the extended reals, where the arguments but the last weights are finite, each device's result is its block of the
reference's.
-/
module

public import proofs.«01_k».proof.Proof.Frames
public import proofs.«01_k».proof.Proof.Layers
public import proofs.«01_k».proof.Proof.Precondition

@[expose] public section

set_option maxRecDepth 16384

noncomputable section

namespace Cert.Proof

open Idealize.ShloMosaic Idealize.ShloMosaic.TcCoe Idealize.SL.Sem
open Cert.Kernel.Gen Cert.KernelIdeal.Gen Cert.ReferenceIdeal.Gen Cert.Pre_finite_KernelIdeal.Gen Cert.Pre_finite_ReferenceIdeal.Gen
open Cert.Stack Cert.Stack.Val

variable {m : (ℓ : Loc Cert.KernelIdeal.nD Cert.KernelIdeal.τ Cert.KernelIdeal.sig) → Buf (Elt Ideal) ℓ}
  {x : FVec Ideal ⟨2, ![64, 2048]⟩ .f32} {w0 w1 w2 : FVec Ideal ⟨2, ![2048, 4096]⟩ .f32} {o0 o1 o2 : FVec Ideal ⟨2, ![4096, 2048]⟩ .f32}

/-- A device's result is its block of the three layers' output. -/
theorem res_block (hp : Cert.Pre_KernelIdeal_finite_KernelIdeal m)
    (X : ∀ d r k, xL m d (ix2 r k) = x (ix2 r (gy d k))) (V0 : WinOf m 0 w0) (W0 : WoutOf m 0 o0) (V1 : WinOf m 1 w1) (W1 : WoutOf m 1 o1)
    (V2 : WinOf m 2 w2) (W2 : WoutOf m 2 o2) (d : Dev Cert.KernelIdeal.nD) :
    resV m d = Layout.blockN ⟨2, ![64, 1024]⟩ ⟨2, ![64, 2048]⟩ (Layout.meshBlock [2, 2] ![[], [1]] d)
      (Ref.layer (F := Ideal) (Ref.layer (F := Ideal) (Ref.layer (F := Ideal) x w0 o0) w1 o1) w2 o2) := by
  have R := pre_real hp
  have H0 := hidden_first X V0
  have R0 := h0_real (fun d => (R d).1) (fun d => (R d).2.1)
  have H1 : Hidden (h1 m) _ _ := H0.next W0 V1 R0 (fun d => (R d).2.2.1) (fun d => (R d).2.2.2.1) 0
  have R1 : ∀ d c r q, IsReal (h1 m d c (ix2 r q)) := nxtH_real R0 (fun d => (R d).2.2.1) (fun d => (R d).2.2.2.1) 0
  have H2 : Hidden (h2 m) _ _ := H1.next W1 V2 R1 (fun d => (R d).2.2.2.2.1) (fun d => (R d).2.2.2.2.2) 1
  funext i
  rw [ValueIdx.eq_ix2 i]
  exact (H2.res W2 d (i 0) (i 1)).trans (blk_row d _ (i 0) (i 1)).symm

theorem algebraic : Cert.algebraic_KernelIdeal_ReferenceIdeal_pre_finite_KernelIdeal := by
  intro m g m' g' hp ha
  refine ⟨Ref.result m', ?_, (θ_run Cert.ReferenceIdeal.defs _ _).mono (fun _ h => h) (Ref.run m' g')⟩
  refine (θ_run Cert.KernelIdeal.defs _ _).mono (fun r h c => ⟨?_, (h.1 c).1⟩) (run_main m g)
  rw [← read_result c (r.2.mem _), (h.1 c).2]
  exact res_block hp (fun d r k => (congrFun (ha d).1 _).trans (blk_row d _ r k))
    (fun d k j => (congrFun (ha d).2.1 _).trans (blk_win d _ k j))
    (fun d j k => (congrFun (ha d).2.2.1 _).trans (blk_wout d _ j k))
    (fun d k j => (congrFun (ha d).2.2.2.1 _).trans (blk_win d _ k j))
    (fun d j k => (congrFun (ha d).2.2.2.2.1 _).trans (blk_wout d _ j k))
    (fun d k j => (congrFun (ha d).2.2.2.2.2.1 _).trans (blk_win d _ k j))
    (fun d j k => (congrFun (ha d).2.2.2.2.2.2 _).trans (blk_wout d _ j k)) c

end Cert.Proof

end

end
-- ==== Proof.lean ====
/- The claims: the frames of the kernel, of its idealized form and of the reference, the idealization, and the value of the result. -/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts, frame_kernel, frame_kernelIdeal, frame_kernelIdeal_finite, frame_reference, frame_reference_finite, trivial, algebraic⟩

end Cert.Proof

end
